-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = Layout.block ⟨2, ![2048, 1024]⟩ ⟨2, ![2048, 4096]⟩ 1 4 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![2048, 1024]⟩ ⟨2, ![2048, 4096]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v8) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2048x1024 : Shape := ⟨2, ![2048, 1024]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel

variable [Facts]

def fn {F : FTy → Type} [FloatOps F] (main_arg0 : FVec F S2048x1024 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  main_v3
-- ==== Pre_finite_ReferenceIdeal.lean ====
abbrev S2048x4096 : Shape := ⟨2, ![2048, 4096]⟩
abbrev S_ : Shape := ⟨0, ![]⟩

class Facts : Prop where
  bcast_S_S2048x4096 : S_.BroadcastsInDim S2048x4096 (![] : Fin 0 → Fin S2048x4096.rank)
  reducesTo_S2048x4096_S_d0_1 : S2048x4096.ReducesTo [0, 1] S_
  h_S_ : 0 < S_.numel

variable [Facts]

def fn {F : FTy → Type} [FloatOps F] (main_arg0 : FVec F S2048x4096 .f32) : IVec S_ 1 :=
  let main_v0 : FVec F S2048x4096 .f32 := Host.absf main_arg0
  let main_cst : FVec F S_ .f32 := constant S_ .f32 0x7F800000#32
  let main_v1 : FVec F S2048x4096 .f32 := broadcastInDim S2048x4096 ![] bcast_S_S2048x4096 main_cst
  let main_v2 : IVec S2048x4096 1 := cmpf .olt main_v0 main_v1
  let main_c : IVec S_ 1 := constantI S_ 1 1#1
  let main_v3 : IVec S_ 1 := (fun x v => Host.reduce IntOp.andi x v reducesTo_S2048x4096_S_d0_1 h_S_) main_v2 main_c
  main_v3
-- ==== Kernel.lean ====
abbrev S2048x1024 : Shape := ⟨2, ![2048, 1024]⟩
abbrev S2x4x1024 : Shape := ⟨3, ![2, 4, 1024]⟩
abbrev S2x3 : Shape := ⟨2, ![2, 3]⟩
abbrev S_ : Shape := ⟨0, ![]⟩
abbrev S1024x1024 : Shape := ⟨2, ![1024, 1024]⟩
abbrev S1024 : Shape := ⟨1, ![1024]⟩
abbrev S1x1x1024 : Shape := ⟨3, ![1, 1, 1024]⟩
abbrev S1x1 : Shape := ⟨2, ![1, 1]⟩
abbrev S1x4x1024 : Shape := ⟨3, ![1, 4, 1024]⟩
abbrev S4x1024 : Shape := ⟨2, ![4, 1024]⟩
abbrev S1024x1 : Shape := ⟨2, ![1024, 1]⟩

abbrev nBuf : Space → Nat
  | .hbm => 2
  | .vmem => 3
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .local _ .vmem, ⟨0, _⟩ => ⟨S2048x1024, .f32⟩
  | .local _ .vmem, ⟨1, _⟩ => ⟨S2048x1024, .f32⟩
  | .local _ .vmem, ⟨2, _⟩ => ⟨S2x4x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 2 → Bool
  | ⟨0, _⟩ => false
  | ⟨1, _⟩ => true
  | _ => false

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  (ofTc nBuf bufTy 2 14 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_5 : BitVec 32 := 1#32
  let v10 : BitVec 32 := Scalar.muli v4 c1_i32_5
  let v11 : BitVec 32 := Scalar.addi c0_i32 v10
  v11.toNat
def k0_dev2 (d0 : Dev nD) : Nat :=
  let c0_i32_8 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v5 : BitVec 32 := Scalar.addi v2 c2_i32
  let c4_i32_2 : BitVec 32 := 4#32
  let v6 : BitVec 32 := Scalar.remsi v5 c4_i32_2
  let c1_i32_7 : BitVec 32 := 1#32
  let v12 : BitVec 32 := Scalar.muli v6 c1_i32_7
  let v13 : BitVec 32 := Scalar.addi c0_i32_8 v12
  v13.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v7 : BitVec 32 := Scalar.addi v2 c3_i32
  let c4_i32_3 : BitVec 32 := 4#32
  let v8 : BitVec 32 := Scalar.remsi v7 c4_i32_3
  let c1_i32_10 : BitVec 32 := 1#32
  let v14 : BitVec 32 := Scalar.muli v8 c1_i32_10
  let v15 : BitVec 32 := Scalar.addi c0_i32_11 v14
  v15.toNat
def k0_dev4 (d0 : Dev nD) : Nat :=
  let c0_i32_25 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_24 : BitVec 32 := 1#32
  let v23 : BitVec 32 := Scalar.muli v4 c1_i32_24
  let v24 : BitVec 32 := Scalar.addi c0_i32_25 v23
  v24.toNat
def k0_dev5 (d0 : Dev nD) : Nat :=
  let c0_i32_37 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v5 : BitVec 32 := Scalar.addi v2 c2_i32
  let c4_i32_2 : BitVec 32 := 4#32
  let v6 : BitVec 32 := Scalar.remsi v5 c4_i32_2
  let c1_i32_36 : BitVec 32 := 1#32
  let v33 : BitVec 32 := Scalar.muli v6 c1_i32_36
  let v34 : BitVec 32 := Scalar.addi c0_i32_37 v33
  v34.toNat
def k0_dev6 (d0 : Dev nD) : Nat :=
  let c0_i32_49 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v7 : BitVec 32 := Scalar.addi v2 c3_i32
  let c4_i32_3 : BitVec 32 := 4#32
  let v8 : BitVec 32 := Scalar.remsi v7 c4_i32_3
  let c1_i32_48 : BitVec 32 := 1#32
  let v43 : BitVec 32 := Scalar.muli v8 c1_i32_48
  let v44 : BitVec 32 := Scalar.addi c0_i32_49 v43
  v44.toNat
def k0_dev7 (d0 : Dev nD) : Nat :=
  let c0_i32_65 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_64 : BitVec 32 := 1#32
  let v60 : BitVec 32 := Scalar.muli v4 c1_i32_64
  let v61 : BitVec 32 := Scalar.addi c0_i32_65 v60
  v61.toNat
def k0_dev8 (d0 : Dev nD) : Nat :=
  let c0_i32_77 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v5 : BitVec 32 := Scalar.addi v2 c2_i32
  let c4_i32_2 : BitVec 32 := 4#32
  let v6 : BitVec 32 := Scalar.remsi v5 c4_i32_2
  let c1_i32_76 : BitVec 32 := 1#32
  let v70 : BitVec 32 := Scalar.muli v6 c1_i32_76
  let v71 : BitVec 32 := Scalar.addi c0_i32_77 v70
  v71.toNat
def k0_dev9 (d0 : Dev nD) : Nat :=
  let c0_i32_89 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v7 : BitVec 32 := Scalar.addi v2 c3_i32
  let c4_i32_3 : BitVec 32 := 4#32
  let v8 : BitVec 32 := Scalar.remsi v7 c4_i32_3
  let c1_i32_88 : BitVec 32 := 1#32
  let v80 : BitVec 32 := Scalar.muli v8 c1_i32_88
  let v81 : BitVec 32 := Scalar.addi c0_i32_89 v80
  v81.toNat
def k0_dev10 (d0 : Dev nD) : Nat :=
  let c0_i32_246_r0 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_245_r0 : BitVec 32 := 1#32
  let v193_r0 : BitVec 32 := Scalar.muli v4 c1_i32_245_r0
  let v194_r0 : BitVec 32 := Scalar.addi c0_i32_246_r0 v193_r0
  v194_r0.toNat
def k0_dev11 (d0 : Dev nD) : Nat :=
  let c0_i32_249_r0 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v5 : BitVec 32 := Scalar.addi v2 c2_i32
  let c4_i32_2 : BitVec 32 := 4#32
  let v6 : BitVec 32 := Scalar.remsi v5 c4_i32_2
  let c1_i32_248_r0 : BitVec 32 := 1#32
  let v195_r0 : BitVec 32 := Scalar.muli v6 c1_i32_248_r0
  let v196_r0 : BitVec 32 := Scalar.addi c0_i32_249_r0 v195_r0
  v196_r0.toNat
def k0_dev12 (d0 : Dev nD) : Nat :=
  let c0_i32_252_r0 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v7 : BitVec 32 := Scalar.addi v2 c3_i32
  let c4_i32_3 : BitVec 32 := 4#32
  let v8 : BitVec 32 := Scalar.remsi v7 c4_i32_3
  let c1_i32_251_r0 : BitVec 32 := 1#32
  let v197_r0 : BitVec 32 := Scalar.muli v8 c1_i32_251_r0
  let v198_r0 : BitVec 32 := Scalar.addi c0_i32_252_r0 v197_r0
  v198_r0.toNat
abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S2048x4096 : Shape := ⟨2, ![2048, 4096]⟩
abbrev S_ : Shape := ⟨0, ![]⟩
abbrev S2048 : Shape := ⟨1, ![2048]⟩
abbrev S2048x1 : Shape := ⟨2, ![2048, 1]⟩

abbrev nBuf : Space → Nat
  | .hbm => 12
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S_, .f32⟩
  | .hbm, ⟨2, _⟩ => ⟨S2048, .f32⟩
  | .hbm, ⟨3, _⟩ => ⟨S2048x1, .f32⟩
  | .hbm, ⟨4, _⟩ => ⟨S2048x4096, .f32⟩
  | .hbm, ⟨5, _⟩ => ⟨S2048x4096, .f32⟩
  | .hbm, ⟨6, _⟩ => ⟨S2048x4096, .f32⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S2048x4096, .f32⟩
  | .hbm, ⟨11, _⟩ => ⟨S2048x4096, .f32⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst_0 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Proof.KernelIdeal.Rows.lean ====
/-
The exchange buffer of the kernel, row by row.

The buffer `cc0_scratch0` of shape 2×4×1024 is used as eight rows of 1024 numbers: row `(k, r)` belongs to chunk `k` of
the device's block (`k = 0, 1`, 1024 rows of `x` each), and of the four rows of a chunk row 3 holds the device's own row
sums and rows 0, 1, 2 those its three peers copy in. This file says which elements a row has, that the rows are disjoint
and cover the buffer, what the buffer holds once every row has arrived (`comm`), and what a store into a row and a
copy of a row leave there.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdeal.Exchange

open Cert.KernelIdeal Cert.KernelIdeal.Gen
open Idealize.ShloMosaic Idealize.ShloMosaic.TcCoe
open Idealize.SL.Sem

variable {F : FTy → Type} [FloatOps F]

/-! ## The devices -/

set_option backward.proofsInPublic true in
/-- The device `j + 1` places after `c` around the four: the one `c`'s `j`-th signal and `j`-th copy go to. -/
def peer (c : Dev nD) (j : Fin 3) : Dev nD := ⟨(c.val + (j.val + 1)) % 4, Nat.mod_lt _ (by decide)⟩

set_option backward.proofsInPublic true in
/-- The device whose row sums end in row `r` of `c`'s exchange buffer: `r + 1` places before `c`, so `c` itself for row 3. -/
def src (c : Dev nD) (r : Fin 4) : Dev nD := ⟨(c.val + (3 - r.val)) % 4, Nat.mod_lt _ (by decide)⟩

theorem src_own (c : Dev nD) : src c 3 = c := by revert c; decide
theorem src_peer (c : Dev nD) (j : Fin 3) : src (peer c j) j.castSucc = c := by revert c j; decide
theorem peer_src (c : Dev nD) (j : Fin 3) : peer (src c j.castSucc) j = c := by revert c j; decide
theorem peer_rev (c : Dev nD) (j : Fin 3) : peer (peer c j) j.rev = c := by revert c j; decide
theorem peer_rev' (c : Dev nD) (j : Fin 3) : peer (peer c j.rev) j = c := by revert c j; decide

/-- Going `j + 1` places on, as a bijection of the devices. -/
def shift (j : Fin 3) : Dev nD ≃ Dev nD := ⟨fun c => peer c j, fun c => src c j.castSucc, fun c => src_peer c j, fun c => peer_src c j⟩

/-! ## The buffers -/

/-- The staging buffer of the device's block of `x`, that of its block of the result, and the exchange buffer. -/
abbrev xM : Memref sig .tc .vmem S2048x1024 .f32 := Memref.whole cc0_stg0_0
abbrev oM : Memref sig .tc .vmem S2048x1024 .f32 := Memref.whole cc0_stg1_0
abbrev cM : Memref sig .tc .vmem S2x4x1024 .f32 := Memref.whole cc0_scratch0

theorem row_inb (k : Fin 2) (r : Fin 4) : ∀ a, (![k.val, r.val, 0] : Fin 3 → Nat) a + S1x1x1024.size a ≤ S2x4x1024.size a := by
  revert k r; decide

theorem slab_inb (k : Fin 2) : ∀ a, (![k.val, 0, 0] : Fin 3 → Nat) a + S1x4x1024.size a ≤ S2x4x1024.size a := by
  revert k; decide

theorem half_inb (k : Fin 2) : ∀ a, (![1024 * k.val, 0] : Fin 2 → Nat) a + S1024x1024.size a ≤ S2048x1024.size a := by
  revert k; decide

/-- Row `(k, r)` of the exchange buffer as a rectangle, and as the copies name it. -/
abbrev rowR (k : Fin 2) (r : Fin 4) : Rect S2x4x1024 := Rect.unit (s := S2x4x1024) ![k.val, r.val, 0] S1x1x1024.size (row_inb k r)
abbrev rowM (k : Fin 2) (r : Fin 4) : Memref sig .tc .vmem S1024 .f32 :=
  (cM.slice (rowR k r) (fun _ => rfl)).squeeze S1024 squeezes_S1x1x1024_S1024
/-- The four rows of chunk `k` together. -/
abbrev slabR (k : Fin 2) : Rect S2x4x1024 := Rect.unit (s := S2x4x1024) ![k.val, 0, 0] S1x4x1024.size (slab_inb k)
/-- Chunk `k` of a device's 2048×1024 block. -/
abbrev halfR (k : Fin 2) : Rect S2048x1024 := Rect.unit (s := S2048x1024) ![1024 * k.val, 0] S1024x1024.size (half_inb k)

/-- The elements of the exchange buffer. -/
abbrev CIdx : Type := (cc0_scratch0 : Ref sig .tc).ty.shape.Idx

/-- The elements of row `(k, r)`, and of chunk `k`. -/
def rowSet (k : Fin 2) (r : Fin 4) : Finset CIdx := (rowR k r).set
def slabSet (k : Fin 2) : Finset CIdx := (slabR k).set

theorem mem_rowSet {k : Fin 2} {r : Fin 4} {i : CIdx} : i ∈ rowSet k r ↔ (i 0).val = k.val ∧ (i 1).val = r.val := by
  unfold rowSet
  rw [Rect.mem_set_unit]
  constructor
  · intro h
    have h0 := h 0; have h1 := h 1
    simp at h0 h1
    constructor <;> omega
  · rintro ⟨h0, h1⟩ a
    have h2 : (i 2).val < 1024 := (i 2).isLt
    fin_cases a <;> simp <;> omega

theorem mem_slabSet {k : Fin 2} {i : CIdx} : i ∈ slabSet k ↔ (i 0).val = k.val := by
  unfold slabSet
  rw [Rect.mem_set_unit]
  constructor
  · intro h
    have h0 := h 0
    simp at h0
    omega
  · intro h0 a
    have h1 : (i 1).val < 4 := (i 1).isLt
    have h2 : (i 2).val < 1024 := (i 2).isLt
    fin_cases a <;> simp <;> omega

/-- Different rows have no element in common. -/
theorem rowSet_disjoint {k k' : Fin 2} {r r' : Fin 4} (h : (k, r) ≠ (k', r')) : Disjoint (rowSet k r) (rowSet k' r') := by
  rw [Finset.disjoint_left]
  intro i hi hi'
  rw [mem_rowSet] at hi hi'
  exact h (Prod.ext (Fin.ext (by simp; omega)) (Fin.ext (by simp; omega)))

/-- A chunk is its four rows. -/
theorem slab_rows (k : Fin 2) : Finset.univ.biUnion (fun r : Fin 4 => rowSet k r) = slabSet k := by
  ext i
  simp only [Finset.mem_biUnion, Finset.mem_univ, true_and, mem_rowSet, mem_slabSet]
  exact ⟨fun ⟨_, h, _⟩ => h, fun h => ⟨⟨(i 1).val, (i 1).isLt⟩, h, rfl⟩⟩

/-- The buffer is its eight rows. -/
theorem all_rows : Finset.univ.biUnion (fun kr : Fin 2 × Fin 4 => rowSet kr.1 kr.2) = Finset.univ := by
  ext i
  simp only [Finset.mem_biUnion, Finset.mem_univ, true_and, iff_true, mem_rowSet]
  exact ⟨(⟨(i 0).val, (i 0).isLt⟩, ⟨(i 1).val, (i 1).isLt⟩), rfl, rfl⟩

/-- The row as the copies name it, and as the store names it, has the row's elements; the load of a chunk reads the chunk's. -/
theorem rowM_set (k : Fin 2) (r : Fin 4) : (rowM k r).view.set = rowSet k r :=
  (View.set_reshape (v := cM.view.slice (rowR k r)) _).trans (View.set_slice_whole _ _)
theorem rowAccess_set (k : Fin 2) (r : Fin 4) : (cM.access (rowR k r)).set = rowSet k r := View.set_slice_whole _ _

/-! ## Contents -/

variable (m : (ℓ : Loc nD τ sig) → Buf (Elt F) ℓ)

/-- The device's block of `x`, as its staging buffer holds it. -/
def xstg (c : Dev nD) : (cc0_stg0_0 : Ref sig .tc).ty.Contents (Elt F) :=
  (win0_0.blk (0 : Fin 1)).view.read (Elt F) (m ((c : Thread nD τ).loc main_arg0))

/-- Chunk `k` of the device's block of `x`. -/
def xhalf (k : Fin 2) (c : Dev nD) : Vec F S1024x1024 .f32 := xM.view.readAt (Elt F) (halfR k).toLoadRect (xstg m c)

/-- The row sums of the exponentials of chunk `k` of device `c`'s block. -/
def psum (k : Fin 2) (c : Dev nD) : FVec F S1x1x1024 .f32 := k0_pay2 (xhalf m k c)

/-- The position within its row of an element of the exchange buffer. -/
def lane (i : CIdx) : S1x1x1024.Idx := fun
  | ⟨0, _⟩ => (⟨0, by decide⟩ : Fin 1)
  | ⟨1, _⟩ => (⟨0, by decide⟩ : Fin 1)
  | ⟨2, _⟩ => (⟨(i 2).val, (i 2).isLt⟩ : Fin 1024)

/-- What device `c`'s exchange buffer holds once all has arrived: in row `r` of chunk `k` the row sums of the device
    `r + 1` places before `c`. -/
def comm (c : Dev nD) : (cc0_scratch0 : Ref sig .tc).ty.Contents (Elt F) :=
  fun i => psum m (i 0) (src c (i 1)) (lane i)

/-- The place in the buffer of the element `y` of row `(k, r)`. -/
def place (k : Fin 2) (r : Fin 4) (y : S1x1x1024.Idx) : CIdx := (rowR k r).emb y

theorem lane_place (k : Fin 2) (r : Fin 4) (y : S1x1x1024.Idx) : lane (place k r y) = y := by
  funext a
  have h0 : (y 0).val < 1 := (y 0).isLt
  have h1 : (y 1).val < 1 := (y 1).isLt
  apply Fin.ext
  fin_cases a
  · show 0 = (y 0).val; omega
  · show 0 = (y 1).val; omega
  · show 0 + 1 * (y 2).val = (y 2).val; omega

theorem place_zero (k : Fin 2) (r : Fin 4) (y : S1x1x1024.Idx) : place k r y 0 = k := by
  have h0 : (y 0).val < 1 := (y 0).isLt
  apply Fin.ext
  show k.val + 1 * (y 0).val = k.val; omega

theorem place_one (k : Fin 2) (r : Fin 4) (y : S1x1x1024.Idx) : place k r y 1 = r := by
  have h0 : (y 1).val < 1 := (y 1).isLt
  apply Fin.ext
  show r.val + 1 * (y 1).val = r.val; omega

theorem comm_place (c : Dev nD) (k : Fin 2) (r : Fin 4) (y : S1x1x1024.Idx) : comm m c (place k r y) = psum m k (src c r) y := by
  unfold comm
  rw [lane_place, place_zero, place_one]

theorem exists_place {k : Fin 2} {r : Fin 4} {i : CIdx} (h : i ∈ rowSet k r) : ∃ y, place k r y = i := by
  unfold rowSet at h
  rw [← Rect.map_emb_univ] at h
  obtain ⟨y, -, hy⟩ := Finset.mem_map.mp h
  exact ⟨y, hy⟩

/-- A device's store of its row sums in row 3 leaves there what `comm` says. -/
theorem store_own (c : Dev nD) (k : Fin 2) (f : (cc0_scratch0 : Ref sig .tc).ty.Contents (Elt F)) :
    ∀ i ∈ rowSet k 3, (cM.access (rowR k 3)).write (Elt F) f (psum m k c) Finset.univ i = comm m c i := by
  intro i hi
  obtain ⟨y, rfl⟩ := exists_place hi
  rw [comm_place, src_own]
  exact View.write_emb_of_mem (v := (cM.access (rowR k 3) : View sig .tc _ _ _)) f (psum m k c) (Finset.mem_univ y)

/-- Row 3 of device `c` copied into row `j` of the device `j + 1` places on is what `comm` says of that row there. -/
theorem land_peer (c : Dev nD) (k : Fin 2) (j : Fin 3) (f : (cc0_scratch0 : Ref sig .tc).ty.Contents (Elt F)) :
    ∀ i ∈ rowSet k j.castSucc,
      (rowM k j.castSucc).view.write (Elt F) f ((rowM k 3).view.read (Elt F) (comm m c)) Finset.univ i = comm m (peer c j) i := by
  intro i hi
  obtain ⟨y, rfl⟩ := exists_place hi
  rw [comm_place, src_peer]
  let z := (Shape.reshapeEquiv squeezes_S1x1x1024_S1024.numel_eq).symm y
  have hz : ∀ r : Fin 4, (rowM k r).view.emb z = place k r y := fun r => by
    show (rowR k r).emb (Shape.reshapeEquiv _ z) = _
    rw [Equiv.apply_symm_apply]; rfl
  rw [← hz j.castSucc]
  refine (View.write_emb_of_mem (v := (rowM k j.castSucc).view) f _ (Finset.mem_univ z)).trans ?_
  show comm m c ((rowM k 3).view.emb z) = _
  rw [hz 3, comm_place, src_own]

/-- The load of a chunk's four rows reads the chunk's elements. -/
theorem slabAccess_set (k : Fin 2) : (cM.access (slabR k)).set = slabSet k := View.set_slice_whole _ _

/-! ## The result -/

/-- The four rows of chunk `k`, read from the exchange buffer once all has arrived. -/
def slab (k : Fin 2) (c : Dev nD) : Vec F S1x4x1024 .f32 := (cM.access (slabR k)).read (Elt F) (comm m c)

/-- Chunk `k` of the device's block of the result: the exponentials times one over the sum of the four rows. -/
def outHalf (k : Fin 2) (c : Dev nD) : FVec F S1024x1024 .f32 := k0_pay5 (k0_pay1 (xhalf m k c)) (slab m k c)

/-- The elements of a device's block. -/
abbrev OIdx : Type := (cc0_stg1_0 : Ref sig .tc).ty.shape.Idx

set_option backward.proofsInPublic true in
/-- The chunk of an element of a device's block, and its position within the chunk. -/
def halfOf (i : OIdx) : Fin 2 := ⟨(i 0).val / 1024, by have h : (i 0).val < 2048 := (i 0).isLt; omega⟩
def within (i : OIdx) : S1024x1024.Idx := fun
  | ⟨0, _⟩ => (⟨(i 0).val % 1024, Nat.mod_lt _ (by decide)⟩ : Fin 1024)
  | ⟨1, _⟩ => (⟨(i 1).val, (i 1).isLt⟩ : Fin 1024)

/-- The device's block of the result. -/
def outAt (c : Dev nD) : (cc0_stg1_0 : Ref sig .tc).ty.Contents (Elt F) := fun i => outHalf m (halfOf i) c (within i)

theorem half_emb (i : OIdx) : (halfR (halfOf i)).emb (within i) = i := by
  funext a
  apply Fin.ext
  fin_cases a
  · show 1024 * ((i 0).val / 1024) + 1 * ((i 0).val % 1024) = (i 0).val; omega
  · show 0 + 1 * (i 1).val = (i 1).val; omega

theorem halfOf_emb (k : Fin 2) (y : S1024x1024.Idx) : halfOf ((halfR k).emb y) = k := by
  have h : (y 0).val < 1024 := (y 0).isLt
  apply Fin.ext
  show (1024 * k.val + 1 * (y 0).val) / 1024 = k.val; omega

/-- Writing the two chunks of the result one after the other leaves the result, whatever was there before. -/
theorem store_halves (c : Dev nD) (f : (cc0_stg1_0 : Ref sig .tc).ty.Contents (Elt F)) :
    (oM.access (halfR 1)).write (Elt F) ((oM.access (halfR 0)).write (Elt F) f (outHalf m 0 c) Finset.univ) (outHalf m 1 c) Finset.univ
      = outAt m c := by
  have hemb : ∀ (k : Fin 2) (y : S1024x1024.Idx) (g : (cc0_stg1_0 : Ref sig .tc).ty.Contents (Elt F)) (w : FVec F S1024x1024 .f32),
      (oM.access (halfR k)).write (Elt F) g w Finset.univ ((halfR k).emb y) = w y := fun k y g w =>
    View.write_emb_of_mem (v := (oM.access (halfR k) : View sig .tc _ _ _)) g w (Finset.mem_univ y)
  funext i
  by_cases h : halfOf i = 1
  · have hi : (halfR 1).emb (within i) = i := by rw [← h]; exact half_emb i
    have := hemb 1 (within i) ((oM.access (halfR 0)).write (Elt F) f (outHalf m 0 c) Finset.univ) (outHalf m 1 c)
    rw [hi] at this
    rw [this]; unfold outAt; rw [h]
  · have h0 : halfOf i = 0 := by omega
    have hi : (halfR 0).emb (within i) = i := by rw [← h0]; exact half_emb i
    have hn : i ∉ (oM.access (halfR 1)).setOn Finset.univ := by
      intro hm
      obtain ⟨y, -, hy⟩ := Finset.mem_map.mp hm
      exact h (by rw [← hy]; exact halfOf_emb 1 y)
    rw [View.write_of_not_mem (v := (oM.access (halfR 1) : View sig .tc _ _ _)) _ _ _ hn]
    have := hemb 0 (within i) f (outHalf m 0 c)
    rw [hi] at this
    rw [this]; unfold outAt; rw [h0]

end Cert.KernelIdeal.Exchange

end
-- ==== Proof.KernelIdeal.Protocol.lean ====
/-
The protocol of the four devices: who signals and copies onto which semaphore, how much, in what order, and what each
arrival hands over.

Every device has fourteen semaphores.
* The entry barrier: each of the three peers adds 1, and with it hands over the two rows of its own exchange buffer that
  this device will copy into. The device waits for 3.
* Six send semaphores, one for each chunk and peer: the device's own copy adds the size of a row when it has read its
  source, and gives back the share of the source row lent to it.
* Six receive semaphores, one for each chunk and peer: the peer's copy adds the size of a row when it has arrived, and
  hands over the row holding that peer's row sums.
* The exit barrier: each of the three peers adds 1, handing over nothing. The device waits for 3.
Each semaphore is used for one round only. A device waits on the entry barrier while it still owes copies and exit
signals, on the receive semaphores while it still owes exit signals, and on the exit barrier when it owes nothing; the
levels 1, 2, 3 of the three kinds say that nobody waits below what they owe. The send semaphores are at level 0.
-/
module

public import proofs.«01_k».proof.Proof.KernelIdeal.Rows

@[expose] public section

noncomputable section

namespace Cert.KernelIdeal.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline's copy, and the protocol's with three duty names -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The semaphores -/

/-- What a semaphore is for. -/
inductive Role where
  | entry | exit | send (k : Fin 2) (j : Fin 3) | recv (k : Fin 2) (j : Fin 3) | other
deriving DecidableEq

set_option backward.proofsInPublic true in
/-- The role of each semaphore: regular semaphores 0 and 1 are the two barriers, the transfer semaphores 2–7 the send and
    8–13 the receive semaphores. -/
def role : SemLoc sig → Role
  | .reg s => if s.val = 0 then .entry else .exit
  | .dma s =>
    if s.val < 2 then .other
    else if s.val < 8 then .send ⟨(s.val - 2) / 3 % 2, Nat.mod_lt _ (by decide)⟩ ⟨(s.val - 2) % 3, Nat.mod_lt _ (by decide)⟩
    else .recv ⟨(s.val - 8) / 3 % 2, Nat.mod_lt _ (by decide)⟩ ⟨(s.val - 8) % 3, Nat.mod_lt _ (by decide)⟩

abbrev entryS : Sem sig := (SemArray.scalar (sig.barrier 0 rfl) : Sems sig S_).sem
abbrev exitS : Sem sig := (cc0_scoped0 : Sems sig S_).sem
set_option backward.proofsInPublic true in
def sendS (k : Fin 2) (j : Fin 3) : DmaSem sig := (⟨2 + (3 * k.val + j.val), by omega⟩ : Fin 14)
set_option backward.proofsInPublic true in
def recvS (k : Fin 2) (j : Fin 3) : DmaSem sig := (⟨8 + (3 * k.val + j.val), by omega⟩ : Fin 14)

abbrev entryCell (c : Dev nD) : GSem nD τ sig := ((c : Thread nD τ), .reg entryS)
abbrev exitCell (c : Dev nD) : GSem nD τ sig := ((c : Thread nD τ), .reg exitS)
abbrev sendCell (c : Dev nD) (k : Fin 2) (j : Fin 3) : GSem nD τ sig := ((c : Thread nD τ), .dma (sendS k j))
abbrev recvCell (c : Dev nD) (k : Fin 2) (j : Fin 3) : GSem nD τ sig := ((c : Thread nD τ), .dma (recvS k j))

theorem role_entry : role (.reg entryS) = .entry := by decide
theorem role_exit : role (.reg exitS) = .exit := by decide
theorem role_send (k : Fin 2) (j : Fin 3) : role (.dma (sendS k j)) = .send k j := by revert k j; decide
theorem role_recv (k : Fin 2) (j : Fin 3) : role (.dma (recvS k j)) = .recv k j := by revert k j; decide

/-- What a copy of a row adds to a semaphore. -/
abbrev N : ℕ := (rowM 0 0).view.dmaCredit
theorem N_pos : 0 < N := View.dmaCredit_pos _ (by decide)

/-! ## Shares of a row -/

/-- The part of a source row lent to each of its three copies: together they are the right half. -/
def part : Fin 3 → PosShare TreeShare := ![fullShare.right.left, fullShare.right.right.left, fullShare.right.right.right]

/-- Row `(k, r)` of device `c`'s exchange buffer, held at share `q` with contents `f`. -/
def rowPts (c : Dev nD) (k : Fin 2) (r : Fin 4) (q : PosShare TreeShare) (f : (cc0_scratch0 : Ref sig .tc).ty.Contents (Elt F)) : sProp 𝕄 :=
  ((c : Thread nD τ).loc cc0_scratch0) ↦[rowSet k r]{q} f

omit [FloatOps F] in
instance rowPts_storable (c : Dev nD) (k : Fin 2) (r : Fin 4) (q : PosShare TreeShare) (f) :
    BI.Storable (upEmb : UEmb _ 𝕄) (rowPts (F := F) c k r q f) := by unfold rowPts; infer_instance

variable (m : (ℓ : Loc nD τ sig) → Buf (Elt F) ℓ)

/-! ## The schedule -/

/-- What the `e`-th duty of `c`'s entry barrier hands `c`: the two rows of the device `e + 1` places on that `c` copies
    into, at any contents. -/
def entryPay (c : Dev nD) (e : Fin 3) : sProp 𝕄 :=
  iprop((∃ f, rowPts (peer c e) 0 e.castSucc fullShare f) ∗ ∃ f, rowPts (peer c e) 1 e.castSucc fullShare f)

/-- What an arrival on a semaphore of device `c` with a given role hands over. -/
def pay (c : Dev nD) (d : Fin 3) : Role → sProp 𝕄
  | .entry => entryPay c d
  | .send k j => rowPts c k 3 (part j) (comm m c)
  | .recv k j => rowPts c k j.castSucc fullShare (comm m c)
  | .exit => iprop(emp)
  | .other => iprop(emp)

/-- Who adds to a semaphore with a given role, in its one round: all three names for the barriers, one for the rest. -/
def names : Role → Finset (Fin 3)
  | .entry => Finset.univ
  | .exit => Finset.univ
  | .send _ _ => {0}
  | .recv _ _ => {0}
  | .other => ∅

/-- How much each adds. -/
def units : Role → ℕ
  | .entry => 1
  | .exit => 1
  | _ => N

theorem units_pos (r : Role) : 0 < units r := by
  cases r <;> first | exact Nat.one_pos | exact N_pos

/-- The protocol as a schedule of one round. -/
def sched : Rounds.Schedule (GSem nD τ sig) (Fin 3) 𝕄 where
  duties g r := if r = 0 ∧ g.1.2 = .tc then names (role g.2) else ∅
  unitless _ := False
  amount g _ _ := units (role g.2)
  payload g _ d := pay m g.1.1 d (role g.2)
  amount_pos g _ _ _ := units_pos _

instance sched_payload_storable (g : GSem nD τ sig) (r : ℕ) (d : Fin 3) :
    BI.Storable (upEmb : UEmb _ 𝕄) ((sched (F := F) m).payload g r d) := by
  show BI.Storable upEmb (pay m g.1.1 d (role g.2))
  cases role g.2 <;> unfold pay <;> first | infer_instance | (unfold entryPay; infer_instance)

section Table
variable (c : Dev nD) (k : Fin 2) (j d : Fin 3)

theorem duties_of {sm : SemLoc sig} {r : Role} (h : role sm = r) : (sched (F := F) m).duties ((c : Thread nD τ), sm) 0 = names r := by
  subst h
  show (if (0 : ℕ) = 0 ∧ (c : Thread nD τ).2 = .tc then names (role sm) else ∅) = _
  rw [if_pos ⟨rfl, rfl⟩]
theorem amount_of {sm : SemLoc sig} {r : Role} (h : role sm = r) : (sched (F := F) m).amount ((c : Thread nD τ), sm) 0 d = units r := by
  subst h; rfl
theorem payload_of {sm : SemLoc sig} {r : Role} (h : role sm = r) : (sched (F := F) m).payload ((c : Thread nD τ), sm) 0 d = pay m c d r := by
  subst h; rfl
theorem duties_later (g : GSem nD τ sig) : ∀ r, 1 ≤ r → (sched (F := F) m).duties g r = ∅ :=
  fun r hr => by
    show (if r = 0 ∧ g.1.2 = .tc then names (role g.2) else ∅) = _
    rw [if_neg fun h => by omega]

theorem expect_of {sm : SemLoc sig} {r : Role} (h : role sm = r) :
    (sched (F := F) m).expect ((c : Thread nD τ), sm) 0 = (names r).card * units r := by
  unfold Schedule.expect Schedule.amountOf
  rw [duties_of m c h, Finset.sum_congr rfl fun d _ => amount_of m c d h, Finset.sum_const, smul_eq_mul]

/-- All that the round of a semaphore hands over. -/
theorem rest_of {sm : SemLoc sig} {r : Role} (h : role sm = r) :
    bigSep ((sched (F := F) m).duties ((c : Thread nD τ), sm) 0 \ ∅) (fun d => (sched (F := F) m).payload ((c : Thread nD τ), sm) 0 d)
      = bigSep (names r) fun d => pay m c d r := by
  rw [Finset.sdiff_empty, duties_of m c h]
  exact bigSep_congr fun d _ => payload_of m c d h

end Table

/-! ## What a device owes -/

/-- The debt made of a list of amounts on semaphores, the first of the list last to be added. -/
def owe : List (GSem nD τ sig × ℕ) → CellTallies nD τ sig Unit
  | [] => 0
  | x :: l => owe l + tallyAt x.1 () x.2

/-- The debts of device `c` in program order: an entry signal to each peer, a copy of chunk 0 to each peer, one of chunk 1 to
    each peer, an exit signal to each peer. -/
def dueExit (c : Dev nD) : List (GSem nD τ sig × ℕ) := [(exitCell (peer c 0), 1), (exitCell (peer c 1), 1), (exitCell (peer c 2), 1)]
def dueOne (c : Dev nD) : List (GSem nD τ sig × ℕ) :=
  (recvCell (peer c 0) 1 0, N) :: (recvCell (peer c 1) 1 1, N) :: (recvCell (peer c 2) 1 2, N) :: dueExit c
def dueZero (c : Dev nD) : List (GSem nD τ sig × ℕ) :=
  (recvCell (peer c 0) 0 0, N) :: (recvCell (peer c 1) 0 1, N) :: (recvCell (peer c 2) 0 2, N) :: dueOne c
def dueAll (c : Dev nD) : List (GSem nD τ sig × ℕ) :=
  (entryCell (peer c 0), 1) :: (entryCell (peer c 1), 1) :: (entryCell (peer c 2), 1) :: dueZero c

/-- The level of each role. -/
def level : Role → ℕ
  | .entry => 1
  | .recv _ _ => 2
  | .exit => 3
  | _ => 0

def L (g : GSem nD τ sig) : Finset Unit := if g.1.2 = .tc then {()} else ∅
def lv (g : GSem nD τ sig) (_ : Unit) : ℕ := level (role g.2)

theorem L_of_ne (g : GSem nD τ sig) (h : g.1.2 ≠ .tc) : L g = ∅ := if_neg h
theorem L_tc {g : GSem nD τ sig} (h : g.1.2 = .tc) : L g = {()} := if_pos h

theorem owe_pos {l : List (GSem nD τ sig × ℕ)} {g : GSem nD τ sig} {u : Unit} (h : 0 < owe l g u) : ∃ x ∈ l, x.1 = g := by
  induction l with
  | nil => exact absurd h (Nat.lt_irrefl 0)
  | cons x l ih =>
    rw [owe, Pi.add_apply, Finsupp.add_apply, tallyAt_apply] at h
    by_cases hx : g = x.1
    · exact ⟨x, List.mem_cons_self, hx.symm⟩
    · rw [if_neg fun h' => hx h'.1] at h
      obtain ⟨y, hy, he⟩ := ih h
      exact ⟨y, List.mem_cons_of_mem _ hy, he⟩

/-- A device may wait on a semaphore while all it owes is at higher levels. -/
theorem mayWait (c : Dev nD) (sm : SemLoc sig) (l : List (GSem nD τ sig × ℕ))
    (h : ∀ x ∈ l, x.1.1.2 = .tc ∧ level (role sm) < level (role x.1.2)) :
    (levAts L lv : sProp 𝕄) ⊢ MayWait (c : Thread nD τ) sm () (owe l) :=
  MayOwe.of_cut (L := L) (lev := lv) (level (role sm))
    (fun p hp => by rw [Finset.mem_singleton.mp hp, L_tc rfl]; exact Finset.mem_singleton_self _)
    (fun g u hg => by
      obtain ⟨x, hx, rfl⟩ := owe_pos hg
      rw [L_tc (h x hx).1]; exact Finset.mem_singleton_self _)
    (fun p hp => by rw [Finset.mem_singleton.mp hp]; exact le_refl _)
    (fun g u hg => by
      obtain ⟨x, hx, rfl⟩ := owe_pos hg
      exact (h x hx).2)

theorem exit_above (c : Dev nD) {r : Role} (hr : level r < 3) : ∀ x ∈ dueExit c, x.1.1.2 = .tc ∧ level r < level (role x.1.2) := by
  intro x hx
  simp only [dueExit, List.mem_cons, List.not_mem_nil, or_false] at hx
  rcases hx with rfl | rfl | rfl <;> exact ⟨rfl, by rw [role_exit]; exact hr⟩

theorem zero_above (c : Dev nD) {r : Role} (hr : level r < 2) : ∀ x ∈ dueZero c, x.1.1.2 = .tc ∧ level r < level (role x.1.2) := by
  intro x hx
  simp only [dueZero, dueOne, List.mem_cons] at hx
  rcases hx with rfl | rfl | rfl | rfl | rfl | rfl | hx
  all_goals first | exact exit_above c (by omega) x hx | exact ⟨rfl, by rw [role_recv]; exact hr⟩

theorem all_above (c : Dev nD) {r : Role} (hr : level r < 1) : ∀ x ∈ dueAll c, x.1.1.2 = .tc ∧ level r < level (role x.1.2) := by
  intro x hx
  simp only [dueAll, List.mem_cons] at hx
  rcases hx with rfl | rfl | rfl | hx
  all_goals first | exact zero_above c (by omega) x hx | exact ⟨rfl, by rw [role_entry]; exact hr⟩

/-! ## The cells of a device, numbered -/

set_option backward.proofsInPublic true in
/-- The fourteen semaphores of the protocol: 0 and 1 the barriers, then the transfer semaphores under their own numbers. -/
def csem (i : Fin 14) : SemLoc sig := if h : i.val < 2 then .reg (⟨i.val, h⟩ : Fin 2) else .dma (i : Fin 14)
abbrev kcell (ci : Dev nD × Fin 14) : GSem nD τ sig := ((ci.1 : Thread nD τ), csem ci.2)

theorem csem_entry : csem 0 = .reg entryS := by decide
theorem csem_exit : csem 1 = .reg exitS := by decide
theorem csem_send (k : Fin 2) (j : Fin 3) : csem (sendS k j) = .dma (sendS k j) := by revert k j; decide
theorem csem_recv (k : Fin 2) (j : Fin 3) : csem (recvS k j) = .dma (recvS k j) := by revert k j; decide
theorem csem_injective : Function.Injective csem := by decide

variable (K : Dev nD × Fin 14 → ℕ)

/-- What every device knows throughout: each semaphore of the protocol is governed by its invariant, under the name `K` gives
    it, and has begun its round; and the levels. -/
def known : sProp 𝕄 :=
  iprop((bigSep Finset.univ fun ci : Dev nD × Fin 14 => cellInv ER (sched m) (K ci) (kcell ci))
    ∗ (bigSep Finset.univ fun ci : Dev nD × Fin 14 => reached ER (kcell ci) 0) ∗ levAts L lv)

instance known_persistent : BI.Persistent (known m K) := by unfold known; infer_instance

theorem known_cell (c : Dev nD) {i : Fin 14} {sm : SemLoc sig} (h : csem i = sm) :
    known m K ⊢ iprop(cellInv ER (sched m) (K (c, i)) ((c : Thread nD τ), sm) ∗ reached ER ((c : Thread nD τ), sm) 0) := by
  subst h
  unfold known
  iintro ⟨#HI, #HR, -⟩
  isplitr
  · iapply (show (bigSep Finset.univ fun ci : Dev nD × Fin 14 => (cellInv ER (sched m) (K ci) (kcell ci) : sProp 𝕄)) ⊢ cellInv ER (sched m) (K (c, i)) (kcell (c, i))
      from bigSep_elim (Finset.mem_univ (c, i)))
    iexact HI
  · iapply (show (bigSep Finset.univ fun ci : Dev nD × Fin 14 => (reached ER (kcell ci) 0 : sProp 𝕄)) ⊢ reached ER (kcell (c, i)) 0
      from bigSep_elim (Finset.mem_univ (c, i)))
    iexact HR

theorem known_wait (c : Dev nD) (sm : SemLoc sig) (l : List (GSem nD τ sig × ℕ))
    (h : ∀ x ∈ l, x.1.1.2 = .tc ∧ level (role sm) < level (role x.1.2)) : known m K ⊢ MayWait (c : Thread nD τ) sm () (owe l) := by
  unfold known
  iintro ⟨-, -, #HL⟩
  iapply (mayWait c sm l h); iexact HL

end Cert.KernelIdeal.Exchange

end
-- ==== Proof.KernelIdeal.Steps.lean ====
/-
One rule for each kind of instruction by which the devices talk to each other — a signal, a copy, a wait — stated for the
protocol: what the device gives and what it gets. And the shares of a row: split for the copies and put together again.
-/
module

public import proofs.«01_k».proof.Proof.KernelIdeal.Protocol

@[expose] public section

noncomputable section

namespace Cert.KernelIdeal.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-! ## Sums over a few indices, written out -/

omit [FloatOps F] in
theorem over_fin2 (Φ : Fin 2 → sProp 𝕄) : bigSep Finset.univ Φ = iprop(Φ 0 ∗ Φ 1) := bigSep_univ_eq_bigSepL [0, 1] (by decide) (by decide) Φ
omit [FloatOps F] in
theorem over_fin3 (Φ : Fin 3 → sProp 𝕄) : bigSep Finset.univ Φ = iprop(Φ 0 ∗ Φ 1 ∗ Φ 2) := bigSep_univ_eq_bigSepL [0, 1, 2] (by decide) (by decide) Φ
omit [FloatOps F] in
theorem over_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ

/-! ## Shares -/

omit [FloatOps F] in
theorem row_halves (c : Dev nD) (k : Fin 2) (r : Fin 4) (q : PosShare TreeShare) (f) :
    (rowPts (F := F) c k r q f) ⊣⊢ iprop(rowPts c k r q.left f ∗ rowPts c k r q.right f) := by
  unfold rowPts; exact pointsTo_share (PosShare.mem_left_op_right q)

omit [FloatOps F] in
/-- A row splits into the left half, kept, and the three parts lent to the copies. -/
theorem row_lend (c : Dev nD) (k : Fin 2) (r : Fin 4) (f) :
    (rowPts (F := F) c k r fullShare f)
      ⊢ iprop(rowPts c k r fullShare.left f ∗ rowPts c k r (part 0) f ∗ rowPts c k r (part 1) f ∗ rowPts c k r (part 2) f) := by
  iintro H
  ihave H := (row_halves c k r fullShare f).1 $$ H
  icases H with ⟨HL, HR⟩
  ihave HR := (row_halves c k r fullShare.right f).1 $$ HR
  icases HR with ⟨H0, HR⟩
  ihave HR := (row_halves c k r fullShare.right.right f).1 $$ HR
  icases HR with ⟨H1, H2⟩
  isplitl [HL]; · iexact HL
  isplitl [H0]; · iexact H0
  isplitl [H1]; · iexact H1
  iexact H2

omit [FloatOps F] in
/-- And is whole again when they are back. -/
theorem row_back (c : Dev nD) (k : Fin 2) (r : Fin 4) (f) :
    iprop(rowPts c k r fullShare.left f ∗ rowPts c k r (part 0) f ∗ rowPts c k r (part 1) f ∗ rowPts c k r (part 2) f)
      ⊢ (rowPts (F := F) c k r fullShare f) := by
  iintro ⟨HL, H0, H1, H2⟩
  iapply (row_halves c k r fullShare f).2
  isplitl [HL]; · iexact HL
  iapply (row_halves c k r fullShare.right f).2
  isplitl [H0]; · iexact H0
  iapply (row_halves c k r fullShare.right.right f).2
  isplitl [H1]; · iexact H1
  iexact H2

omit [FloatOps F] in
/-- The four rows of a chunk, at one share, are the chunk. -/
theorem slab_of_rows (c : Dev nD) (k : Fin 2) (q : PosShare TreeShare) (f) :
    iprop(rowPts (F := F) c k 0 q f ∗ rowPts c k 1 q f ∗ rowPts c k 2 q f ∗ rowPts c k 3 q f)
      = ((c : Thread nD τ).loc cc0_scratch0 ↦[slabSet k]{q} f) := by
  rw [← slab_rows k, pointsTo_biUnion _ _ fun r _ r' _ h => rowSet_disjoint fun e => h (congrArg Prod.snd e), over_fin4]
  rfl

omit [FloatOps F] in
/-- The eight rows are the whole buffer. -/
theorem buf_of_rows (c : Dev nD) (q : PosShare TreeShare) (f) :
    ((c : Thread nD τ).loc cc0_scratch0 ↦{q} f : sProp 𝕄)
      = iprop((rowPts c 0 0 q f ∗ rowPts c 0 1 q f ∗ rowPts c 0 2 q f ∗ rowPts c 0 3 q f)
        ∗ rowPts c 1 0 q f ∗ rowPts c 1 1 q f ∗ rowPts c 1 2 q f ∗ rowPts c 1 3 q f) := by
  have h : ((c : Thread nD τ).loc cc0_scratch0 ↦[Finset.univ.biUnion fun kr : Fin 2 × Fin 4 => rowSet kr.1 kr.2]{q} f : sProp 𝕄)
      = bigSep Finset.univ fun kr : Fin 2 × Fin 4 => rowPts c kr.1 kr.2 q f :=
    pointsTo_biUnion _ _ fun r _ r' _ h => rowSet_disjoint fun e => h e
  rw [all_rows] at h
  refine h.trans ?_
  rw [bigSep_univ_prod, over_fin2, over_fin4, over_fin4]

/-! ## The debt of a device -/

/-- Device `c` owes exactly the debts listed. -/
def Debt (c : Dev nD) (l : List (GSem nD τ sig × ℕ)) : sProp 𝕄 := iprop(∃ W, owes (c : Thread nD τ) (owe l) W)

variable (m : (ℓ : Loc nD τ sig) → Buf (Elt F) ℓ) (K : Dev nD × Fin 14 → ℕ)

/-! ## Signals -/

/-- What a device hands over with its signal to the entry barrier of the peer `j.rev + 1` places before it: its own rows
    `j` of both chunks. -/
theorem entryPay_rev (c : Dev nD) (j : Fin 3) : (entryPay (F := F) (peer c j) j.rev)
    = iprop((∃ f, rowPts c 0 j.rev.castSucc fullShare f) ∗ ∃ f, rowPts c 1 j.rev.castSucc fullShare f) := by
  unfold entryPay; rw [peer_rev]

/-- The signal to the entry barrier of the peer `n`, `j + 1` places on. -/
theorem step_entry (c n : Dev nD) (j : Fin 3) (hn : n = peer c j) (w : ℕ) (hw : w = 1) (l : List (GSem nD τ sig × ℕ))
    {α : Type} {Q : α → sProp 𝕄} {k : PUnit → Prog (TpuEff nD τ sig (Elt F) Λ₀ .tc) α} :
    iprop(known m K ∗ Debt c ((entryCell (peer c j), 1) :: l) ∗ dutyTok ER (entryCell (peer c j)) 0 j.rev ∗ entryPay (peer c j) j.rev)
      ⊢ iprop((Debt c l -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n : Thread nD τ) entryS w) k) Q) := by
  subst hn; subst hw
  unfold Debt
  iintro ⟨#Hk, ⟨%W, HO⟩, Ht, Hp⟩ Hw
  ihave #Hc := (known_cell m K (peer c j) csem_entry) $$ Hk
  icases Hc with ⟨#HI, #HR⟩
  iapply (Rounds.wp_signal 𝒱₀ ER (sched m) (c : Thread nD τ) none (dst := (peer c j : Thread nD τ)) (κ := K (peer c j, 0))
      (d := j.rev) (by rw [duties_of m _ role_entry]; exact Finset.mem_univ _) (amount_of m _ _ role_entry) () (owe l) rfl) $$ [HO Ht Hp]
  · isplitr; · iexact HI
    isplitl [HO]; · iexact HO
    isplitl [Ht]; · iexact Ht
    isplitl [Hp]; · iapply (Entails.of_eq (payload_of m (peer c j) j.rev role_entry).symm); unfold pay; iexact Hp
    iexact HR
  iintro HO
  iapply Hw
  iexists W; iexact HO

/-- The signal to the exit barrier of the peer `n`, `j + 1` places on. -/
theorem step_exit (c n : Dev nD) (j : Fin 3) (hn : n = peer c j) (w : ℕ) (hw : w = 1) (l : List (GSem nD τ sig × ℕ))
    {α : Type} {Q : α → sProp 𝕄} {k : PUnit → Prog (TpuEff nD τ sig (Elt F) Λ₀ .tc) α} :
    iprop(known m K ∗ Debt c ((exitCell (peer c j), 1) :: l) ∗ dutyTok ER (exitCell (peer c j)) 0 j.rev)
      ⊢ iprop((Debt c l -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n : Thread nD τ) exitS w) k) Q) := by
  subst hn; subst hw
  unfold Debt
  iintro ⟨#Hk, ⟨%W, HO⟩, Ht⟩ Hw
  ihave #Hc := (known_cell m K (peer c j) csem_exit) $$ Hk
  icases Hc with ⟨#HI, #HR⟩
  iapply (Rounds.wp_signal 𝒱₀ ER (sched m) (c : Thread nD τ) none (dst := (peer c j : Thread nD τ)) (κ := K (peer c j, 1))
      (d := j.rev) (by rw [duties_of m _ role_exit]; exact Finset.mem_univ _) (amount_of m _ _ role_exit) () (owe l) rfl) $$ [HO Ht]
  · isplitr; · iexact HI
    isplitl [HO]; · iexact HO
    isplitl [Ht]; · iexact Ht
    isplitl []; · iapply (Entails.of_eq (payload_of m (peer c j) j.rev role_exit).symm); unfold pay; iempintro
    iexact HR
  iintro HO
  iapply Hw
  iexists W; iexact HO

/-! ## Copies -/

theorem amount_row (k : Fin 2) (r : Fin 4) (s : DmaSem sig) : (rowM k r).view.amount (SemLoc.dma s) = N := rfl

omit [FloatOps F] in
theorem rowPts_view (c : Dev nD) (k : Fin 2) (r : Fin 4) (q : PosShare TreeShare) (f) :
    (rowPts (F := F) c k r q f) = ((rowM k r).view.loc (c : Thread nD τ) ↦[(rowM k r).view.set]{q} f) := by
  unfold rowPts; rw [rowM_set]

/-- The source lent is what the send semaphore gives back. -/
theorem lent_pay (c : Dev nD) (k : Fin 2) (j : Fin 3) :
    ((rowM k 3).view.loc (c : Thread nD τ) ↦[(rowM k 3).view.set]{part j} comm m c : sProp 𝕄)
      ⊢ (sched m).payload (sendCell c k j) 0 0 := by
  rw [payload_of m _ _ (role_send k j)]; show _ ⊢ rowPts c k 3 (part j) (comm m c); rw [rowPts_view]

/-- The peer's row overwritten with the source is what its receive semaphore hands over. -/
theorem landed_pay (c : Dev nD) (k : Fin 2) (j : Fin 3) (f : (cc0_scratch0 : Ref sig .tc).ty.Contents (Elt F)) :
    ((rowM k j.castSucc).view.loc (peer c j : Thread nD τ) ↦[(rowM k j.castSucc).view.set]{fullShare}
        ((rowM k j.castSucc).view.write (Elt F) f ((rowM k 3).view.read (Elt F) (comm m c)) Finset.univ) : sProp 𝕄)
      ⊢ (sched m).payload (recvCell (peer c j) k j) 0 0 := by
  rw [payload_of m _ _ (role_recv k j)]; show _ ⊢ rowPts (peer c j) k j.castSucc fullShare (comm m (peer c j)); rw [← rowPts_view]; unfold rowPts
  rw [pointsTo_congr (land_peer m c k j f)]

/-- What the copy of chunk `k` to the peer `j + 1` places on takes: the peer's row and the two rights to add; and with them
    a part of the source row. -/
def target (c : Dev nD) (k : Fin 2) (j : Fin 3) : sProp 𝕄 :=
  iprop((∃ f, rowPts (peer c j) k j.castSucc fullShare f)
    ∗ dutyTok ER (sendCell c k j) 0 0 ∗ dutyTok ER (recvCell (peer c j) k j) 0 0)
def toSend (c : Dev nD) (k : Fin 2) (j : Fin 3) : sProp 𝕄 := iprop(rowPts c k 3 (part j) (comm m c) ∗ target c k j)

/-- The copy of chunk `k` to the peer `n`, `j + 1` places on: it takes a part of the source row, the peer's row and the two
    right to add, and leaves the credit to wait for the source. -/
theorem step_send (c n : Dev nD) (k : Fin 2) (j : Fin 3) (hn : n = peer c j) (l : List (GSem nD τ sig × ℕ))
    {hsc : (rowM k j.castSucc : Memref sig (Dev.tc n : Thread nD τ).2.kind .vmem S1024 .f32).view.ref.isScScratch = false}
    {hsrc : (rowM k 3).view.WordExact} {hdst : (rowM k j.castSucc).view.WordExact}
    {hsem : DmaTarget.Typed .vmem (.dma (recvS k j)) (.remote (Dev.tc n : Thread nD τ) (rowM k j.castSucc) (.dma (sendS k j)) hsc)}
    {α : Type} {Q : α → sProp 𝕄} {kt : PUnit → Prog (TpuEff nD τ sig (Elt F) Λ₀ .tc) α} :
    iprop(known m K ∗ Debt c ((recvCell (peer c j) k j, N) :: l) ∗ toSend m c k j)
      ⊢ iprop(((cred (tallyAt (sendCell c k j) () N) ∗ Debt c l) -∗ wp frame (wpE (defs₀ (F := F)) 𝒱₀ (c : Thread nD τ) none) Set.univ (kt ⟨⟩) Q)
          -∗ wp frame (wpE (defs₀ (F := F)) 𝒱₀ (c : Thread nD τ) none) Set.univ
              (.op (.enqueueDma (rowM k 3) (.remote (Dev.tc n : Thread nD τ) (rowM k j.castSucc) (.dma (sendS k j)) hsc) (.dma (recvS k j)) hsrc hdst hsem) kt) Q) := by
  subst hn
  unfold Debt toSend target
  iintro ⟨#Hk, ⟨%W, HO⟩, Hs, ⟨%f, Hd⟩, Ht, Hu⟩ Hw
  ihave #Hc := (known_cell m K c (csem_send k j)) $$ Hk
  icases Hc with ⟨#HI, #HR⟩
  ihave #Hc' := (known_cell m K (peer c j) (csem_recv k j)) $$ Hk
  icases Hc' with ⟨#HI', #HR'⟩
  iapply (Rounds.wp_send_pointsTo 𝒱₀ ER (sched m) (c : Thread nD τ) none (src := rowM k 3) (dst := rowM k j.castSucc)
    (c' := (peer c j : Thread nD τ)) (sS := .dma (sendS k j)) (sem := .dma (recvS k j)) (κ₁ := K (c, sendS k j)) (κ₂ := K (peer c j, recvS k j))
    (r₁ := 0) (r₂ := 0) (d₁ := 0) (d₂ := 0) (fs := comm m c) (fd := f) (q := part j)
    (by rw [duties_of m _ (role_send k j)]; exact Finset.mem_singleton_self _)
    (by rw [duties_of m _ (role_recv k j)]; exact Finset.mem_singleton_self _)
    () () N (amount_row k j.castSucc (recvS k j)) (amount_of m _ _ (role_send k j)) (amount_of m _ _ (role_recv k j)) (owe l) rfl (W := W)
    (lent_pay m c k j) (landed_pay m c k j f)) $$ [HO Hs Hd Ht Hu]
  · isplitr; · iexact HI
    isplitr; · iexact HI'
    isplitl [Hs]; · iapply (Entails.of_eq (rowPts_view c k 3 (part j) (comm m c))); iexact Hs
    isplitl [Hd]; · iapply (Entails.of_eq (rowPts_view (peer c j) k j.castSucc fullShare f)); iexact Hd
    isplitl [HO]; · iexact HO
    isplitl [Ht]; · iexact Ht
    isplitr; · iexact HR
    isplitl [Hu]; · iexact Hu
    iexact HR'
  iintro ⟨Hc1, HO⟩
  iapply Hw
  isplitl [Hc1]; · iexact Hc1
  iexists W; iexact HO

/-! ## Waits -/

/-- A wait on a transfer semaphore whose role has one name: the device gets what the arrival hands over, and the semaphore's
    counter, at zero, closed. -/
theorem step_wait (c : Dev nD) (s : DmaSem sig) (i : Fin 14) (hi : csem i = .dma s) (r : Role) (hr : role (.dma s) = r)
    (hnm : names r = {0}) (hu : units r = N) (l : List (GSem nD τ sig × ℕ))
    (hl : ∀ x ∈ l, x.1.1.2 = .tc ∧ level r < level (role x.1.2))
    {src dst : Memref sig .tc .vmem S1024 .f32} {hsrc : src.view.WordExact} {hdst : dst.view.WordExact} (hN : dst.view.dmaCredit = N)
    {α : Type} {Q : α → sProp 𝕄} {kt : PUnit → Prog (TpuEff nD τ sig (Elt F) Λ₀ .tc) α} :
    iprop(known m K ∗ Debt c l ∗ cred (tallyAt ((c : Thread nD τ), SemLoc.dma s) () N) ∗ atPos ER ((c : Thread nD τ), .dma s) 0 ∅ 0)
      ⊢ iprop(((Debt c l ∗ pay m c 0 r ∗ semVal ((c : Thread nD τ), .dma s) 0)
            -∗ wp frame (wpE (defs₀ (F := F)) 𝒱₀ (c : Thread nD τ) none) Set.univ (kt ⟨⟩) Q)
          -∗ wp frame (wpE (defs₀ (F := F)) 𝒱₀ (c : Thread nD τ) none) Set.univ (.op (.waitDma2 s src dst hsrc hdst) kt) Q) := by
  subst hr
  unfold Debt
  iintro ⟨#Hk, ⟨%W, HO⟩, Hcr, Hat⟩ Hw
  ihave #Hc := (known_cell m K c hi) $$ Hk
  icases Hc with ⟨#HI, #HR⟩
  iapply (Rounds.wp_wait_rest_token 𝒱₀ ER (sched m) (c : Thread nD τ) none (κ := K (c, i))
      (wpE_waitDma2_eq 𝒱₀ (c : Thread nD τ) none Set.univ) (Set.mem_univ _) () (O := owe l) (W := W) (R := 0) (m := 0) (T := ∅)
      (by rw [Nat.zero_add, hN, expect_of m c rfl, hnm, hu, Finset.card_singleton, Nat.one_mul])) $$ [Hcr HO Hat]
  · isplitr; · iexact HI
    isplitl [Hcr]; · iexact Hcr
    isplitl [HO]; · iexact HO
    isplitr; · iapply (known_wait m K c (.dma s) l hl); iexact Hk
    iexact Hat
  iintro ⟨HO, Hat, -, Hpay⟩
  imod (Rounds.cell_close ER (sched m) (Set.mem_univ (K (c, i))) (fun h => h) (R := 0 + 1) (duties_later m ((c : Thread nD τ), .dma s))) $$ [Hat] with Hz
  · isplitr; · iexact HI
    iexact Hat
  ihave Hp := (Entails.of_eq ((rest_of m c rfl).trans (by rw [hnm, bigSep_singleton]))) $$ Hpay
  iapply Hw
  isplitl [HO]; · iexists _; iexact HO
  isplitl [Hp]; · iexact Hp
  iexact Hz

/-- The wait for what the peer `j + 1` places before sent: its row sums of chunk `k`. -/
theorem step_recv (c : Dev nD) (k : Fin 2) (j : Fin 3) (l : List (GSem nD τ sig × ℕ))
    (hl : ∀ x ∈ l, x.1.1.2 = .tc ∧ 2 < level (role x.1.2))
    {src dst : Memref sig .tc .vmem S1024 .f32} {hsrc : src.view.WordExact} {hdst : dst.view.WordExact} (hN : dst.view.dmaCredit = N)
    {α : Type} {Q : α → sProp 𝕄} {kt : PUnit → Prog (TpuEff nD τ sig (Elt F) Λ₀ .tc) α} :
    iprop(known m K ∗ Debt c l ∗ cred (tallyAt (recvCell c k j) () N) ∗ atPos ER (recvCell c k j) 0 ∅ 0)
      ⊢ iprop(((Debt c l ∗ rowPts c k j.castSucc fullShare (comm m c) ∗ semVal (recvCell c k j) 0)
            -∗ wp frame (wpE (defs₀ (F := F)) 𝒱₀ (c : Thread nD τ) none) Set.univ (kt ⟨⟩) Q)
          -∗ wp frame (wpE (defs₀ (F := F)) 𝒱₀ (c : Thread nD τ) none) Set.univ (.op (.waitDma2 (recvS k j) src dst hsrc hdst) kt) Q) :=
  step_wait m K c (recvS k j) _ (csem_recv k j) _ (role_recv k j) rfl rfl l hl hN

/-- The wait for a copy of the device's own to have read its source. -/
theorem step_sent (c : Dev nD) (k : Fin 2) (j : Fin 3) (l : List (GSem nD τ sig × ℕ))
    (hl : ∀ x ∈ l, x.1.1.2 = .tc ∧ 0 < level (role x.1.2))
    {src dst : Memref sig .tc .vmem S1024 .f32} {hsrc : src.view.WordExact} {hdst : dst.view.WordExact} (hN : dst.view.dmaCredit = N)
    {α : Type} {Q : α → sProp 𝕄} {kt : PUnit → Prog (TpuEff nD τ sig (Elt F) Λ₀ .tc) α} :
    iprop(known m K ∗ Debt c l ∗ cred (tallyAt (sendCell c k j) () N) ∗ atPos ER (sendCell c k j) 0 ∅ 0)
      ⊢ iprop(((Debt c l ∗ rowPts c k 3 (part j) (comm m c) ∗ semVal (sendCell c k j) 0)
            -∗ wp frame (wpE (defs₀ (F := F)) 𝒱₀ (c : Thread nD τ) none) Set.univ (kt ⟨⟩) Q)
          -∗ wp frame (wpE (defs₀ (F := F)) 𝒱₀ (c : Thread nD τ) none) Set.univ (.op (.waitDma2 (sendS k j) src dst hsrc hdst) kt) Q) :=
  step_wait m K c (sendS k j) _ (csem_send k j) _ (role_send k j) rfl rfl l hl hN

/-- The wait on a barrier for all three peers. -/
theorem step_barrier (c : Dev nD) (s : Sem sig) (i : Fin 14) (hi : csem i = .reg s) (r : Role) (hr : role (.reg s) = r)
    (hnm : names r = Finset.univ) (hu : units r = 1) (l : List (GSem nD τ sig × ℕ))
    (hl : ∀ x ∈ l, x.1.1.2 = .tc ∧ level r < level (role x.1.2)) (w : ℕ) (hw : w = 3)
    {α : Type} {Q : α → sProp 𝕄} {kt : PUnit → Prog (TpuEff nD τ sig (Elt F) Λ₀ .tc) α} :
    iprop(known m K ∗ Debt c l ∗ cred (tallyAt ((c : Thread nD τ), SemLoc.reg s) () 3) ∗ atPos ER ((c : Thread nD τ), .reg s) 0 ∅ 0)
      ⊢ iprop(((Debt c l ∗ (pay m c 0 r ∗ pay m c 1 r ∗ pay m c 2 r) ∗ semVal ((c : Thread nD τ), .reg s) 0)
            -∗ wp frame (wpE (defs₀ (F := F)) 𝒱₀ (c : Thread nD τ) none) Set.univ (kt ⟨⟩) Q)
          -∗ wp frame (wpE (defs₀ (F := F)) 𝒱₀ (c : Thread nD τ) none) Set.univ (.op (.semWait s w) kt) Q) := by
  subst hr; subst hw
  unfold Debt
  iintro ⟨#Hk, ⟨%W, HO⟩, Hcr, Hat⟩ Hw
  ihave #Hc := (known_cell m K c hi) $$ Hk
  icases Hc with ⟨#HI, #HR⟩
  iapply (Rounds.wp_wait_rest_token 𝒱₀ ER (sched m) (c : Thread nD τ) none (κ := K (c, i))
      (wpE_semWait_eq 𝒱₀ (c : Thread nD τ) none Set.univ) (Set.mem_univ _) () (O := owe l) (W := W) (R := 0) (m := 0) (T := ∅)
      (by rw [Nat.zero_add, expect_of m c rfl, hnm, hu]; rfl)) $$ [Hcr HO Hat]
  · isplitr; · iexact HI
    isplitl [Hcr]; · iexact Hcr
    isplitl [HO]; · iexact HO
    isplitr; · iapply (known_wait m K c (.reg s) l hl); iexact Hk
    iexact Hat
  iintro ⟨HO, Hat, -, Hpay⟩
  imod (Rounds.cell_close ER (sched m) (Set.mem_univ (K (c, i))) (fun h => h) (R := 0 + 1) (duties_later m ((c : Thread nD τ), .reg s))) $$ [Hat] with Hz
  · isplitr; · iexact HI
    iexact Hat
  ihave Hp := (Entails.of_eq ((rest_of m c rfl).trans (by rw [hnm, over_fin3]))) $$ Hpay
  iapply Hw
  isplitl [HO]; · iexists _; iexact HO
  isplitl [Hp]; · iexact Hp
  iexact Hz

/-! ## Loads and stores -/

/-- A device's block of `x`, and its block of the result at contents `f`, in their staging buffers. -/
def xPts (c : Dev nD) : sProp 𝕄 := ((c : Thread nD τ).loc cc0_stg0_0) ↦{fullShare} (xstg m c)
def oPts (c : Dev nD) (f : (cc0_stg1_0 : Ref sig .tc).ty.Contents (Elt F)) : sProp 𝕄 := ((c : Thread nD τ).loc cc0_stg1_0) ↦{fullShare} f

section Memory
variable (c : Dev nD) (k : Fin 2)

theorem step_load_x {α : Type} {Q : α → sProp 𝕄} {hl : xM.view.LoadsAt (halfR k).toLoadRect} {kt : Vec F S1024x1024 .f32 → Prog (TpuEff nD τ sig (Elt F) Λ₀ .tc) α} :
    xPts m c ⊢ iprop((xPts m c -∗ wp frame (wpE (defs₀ (F := F)) 𝒱₀ (c : Thread nD τ) none) Set.univ (kt (xhalf m k c)) Q)
      -∗ wp frame (wpE (defs₀ (F := F)) 𝒱₀ (c : Thread nD τ) none) Set.univ (.op (.load xM (halfR k).toLoadRect hl) kt) Q) :=
  wp_load 𝒱₀ (c : Thread nD τ) none Set.univ (m := xM) (Finset.subset_univ _)

/-- A load of a row whose value is not used. -/
theorem step_load_row {α : Type} {Q : α → sProp 𝕄} (r : Fin 4) (q : PosShare TreeShare) (f) {hl : cM.view.LoadsAt (rowR k r).toLoadRect}
    {kt : Prog (TpuEff nD τ sig (Elt F) Λ₀ .tc) α} :
    rowPts c k r q f ⊢ iprop((rowPts c k r q f -∗ wp frame (wpE (defs₀ (F := F)) 𝒱₀ (c : Thread nD τ) none) Set.univ kt Q)
      -∗ wp frame (wpE (defs₀ (F := F)) 𝒱₀ (c : Thread nD τ) none) Set.univ (.op (.load cM (rowR k r).toLoadRect hl) fun _ => kt) Q) :=
  wp_load_rect 𝒱₀ (c : Thread nD τ) none Set.univ (m := cM) (r := rowR k r) (k := fun _ => kt) (rowAccess_set k r).subset

/-- The store of the device's row sums of chunk `k` in its own row. -/
theorem step_store_own {α : Type} {Q : α → sProp 𝕄} (f) {hx : (cM.access (rowR k 3)).Stores Finset.univ} {hm} {kt : PUnit → Prog (TpuEff nD τ sig (Elt F) Λ₀ .tc) α} :
    rowPts c k 3 fullShare f
      ⊢ iprop((rowPts c k 3 fullShare (comm m c) -∗ wp frame (wpE (defs₀ (F := F)) 𝒱₀ (c : Thread nD τ) none) Set.univ (kt ⟨⟩) Q)
        -∗ wp frame (wpE (defs₀ (F := F)) 𝒱₀ (c : Thread nD τ) none) Set.univ (.op (.store cM (rowR k 3) (psum m k c) Finset.univ hx hm) kt) Q) := by
  unfold rowPts
  iintro Hr Hw
  iapply (wp_store 𝒱₀ (c : Thread nD τ) none Set.univ (m := cM) (r := rowR k 3) (Mk := Finset.univ) (S := rowSet k 3)
    ((cM.access (rowR k 3)).setOn_univ ▸ (rowAccess_set k 3).subset)) $$ Hr
  iintro Hr
  iapply Hw
  iapply (Entails.of_eq (pointsTo_congr (store_own m c k f)))
  iexact Hr

/-- The load of a chunk's four rows once all has arrived. -/
theorem step_load_slab {α : Type} {Q : α → sProp 𝕄} (q : PosShare TreeShare) {hl : cM.view.LoadsAt (slabR k).toLoadRect}
    {kt : Vec F S1x4x1024 .f32 → Prog (TpuEff nD τ sig (Elt F) Λ₀ .tc) α} :
    iprop(rowPts (F := F) c k 0 q (comm m c) ∗ rowPts c k 1 q (comm m c) ∗ rowPts c k 2 q (comm m c) ∗ rowPts c k 3 q (comm m c))
      ⊢ iprop((iprop(rowPts (F := F) c k 0 q (comm m c) ∗ rowPts c k 1 q (comm m c) ∗ rowPts c k 2 q (comm m c) ∗ rowPts c k 3 q (comm m c))
          -∗ wp frame (wpE (defs₀ (F := F)) 𝒱₀ (c : Thread nD τ) none) Set.univ (kt (slab m k c)) Q)
        -∗ wp frame (wpE (defs₀ (F := F)) 𝒱₀ (c : Thread nD τ) none) Set.univ (.op (.load cM (slabR k).toLoadRect hl) kt) Q) := by
  rw [slab_of_rows]
  exact wp_load_rect 𝒱₀ (c : Thread nD τ) none Set.univ (m := cM) (r := slabR k) (slabAccess_set k).subset

/-- A load of a chunk of the result's buffer, whose value is not used. -/
theorem step_load_out {α : Type} {Q : α → sProp 𝕄} (f) {hl : oM.view.LoadsAt (halfR k).toLoadRect} {kt : Prog (TpuEff nD τ sig (Elt F) Λ₀ .tc) α} :
    oPts c f ⊢ iprop((oPts c f -∗ wp frame (wpE (defs₀ (F := F)) 𝒱₀ (c : Thread nD τ) none) Set.univ kt Q)
      -∗ wp frame (wpE (defs₀ (F := F)) 𝒱₀ (c : Thread nD τ) none) Set.univ (.op (.load oM (halfR k).toLoadRect hl) fun _ => kt) Q) :=
  wp_load 𝒱₀ (c : Thread nD τ) none Set.univ (m := oM) (k := fun _ => kt) (Finset.subset_univ _)

/-- The store of a chunk of the result. -/
theorem step_store_out {α : Type} {Q : α → sProp 𝕄} (f) {w : FVec F S1024x1024 .f32} {hx : (oM.access (halfR k)).Stores Finset.univ} {hm}
    {kt : PUnit → Prog (TpuEff nD τ sig (Elt F) Λ₀ .tc) α} :
    oPts c f
      ⊢ iprop((oPts c ((oM.access (halfR k)).write (Elt F) f w Finset.univ)
          -∗ wp frame (wpE (defs₀ (F := F)) 𝒱₀ (c : Thread nD τ) none) Set.univ (kt ⟨⟩) Q)
        -∗ wp frame (wpE (defs₀ (F := F)) 𝒱₀ (c : Thread nD τ) none) Set.univ (.op (.store oM (halfR k) w Finset.univ hx hm) kt) Q) :=
  wp_store 𝒱₀ (c : Thread nD τ) none Set.univ (m := oM) (r := halfR k) (Mk := Finset.univ) (Finset.subset_univ _)

end Memory

end Cert.KernelIdeal.Exchange

end
-- ==== Proof.KernelIdeal.Parts.lean ====
/-
The kernel's body on one device, part by part: from what the device holds before each part to what it holds after.
-/
module

public import proofs.«01_k».proof.Proof.KernelIdeal.Steps

@[expose] public section

noncomputable section

namespace Cert.KernelIdeal.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The devices the kernel addresses -/

section Devices
variable (c : Dev nD)
theorem dev1 : (⟨k0_dev1 c, k0_dev1_lt c⟩ : Dev nD) = peer c 0 := Fin.ext (k0_dev1_eq c)
theorem dev2 : (⟨k0_dev2 c, k0_dev2_lt c⟩ : Dev nD) = peer c 1 := Fin.ext (k0_dev2_eq c)
theorem dev3 : (⟨k0_dev3 c, k0_dev3_lt c⟩ : Dev nD) = peer c 2 := Fin.ext (k0_dev3_eq c)
theorem dev4 : (⟨k0_dev4 c, k0_dev4_lt c⟩ : Dev nD) = peer c 0 := Fin.ext (k0_dev4_eq c)
theorem dev5 : (⟨k0_dev5 c, k0_dev5_lt c⟩ : Dev nD) = peer c 1 := Fin.ext (k0_dev5_eq c)
theorem dev6 : (⟨k0_dev6 c, k0_dev6_lt c⟩ : Dev nD) = peer c 2 := Fin.ext (k0_dev6_eq c)
theorem dev7 : (⟨k0_dev7 c, k0_dev7_lt c⟩ : Dev nD) = peer c 0 := Fin.ext (k0_dev7_eq c)
theorem dev8 : (⟨k0_dev8 c, k0_dev8_lt c⟩ : Dev nD) = peer c 1 := Fin.ext (k0_dev8_eq c)
theorem dev9 : (⟨k0_dev9 c, k0_dev9_lt c⟩ : Dev nD) = peer c 2 := Fin.ext (k0_dev9_eq c)
theorem dev10 : (⟨k0_dev10 c, k0_dev10_lt c⟩ : Dev nD) = peer c 0 := Fin.ext (k0_dev10_eq c)
theorem dev11 : (⟨k0_dev11 c, k0_dev11_lt c⟩ : Dev nD) = peer c 1 := Fin.ext (k0_dev11_eq c)
theorem dev12 : (⟨k0_dev12 c, k0_dev12_lt c⟩ : Dev nD) = peer c 2 := Fin.ext (k0_dev12_eq c)
end Devices

variable (m : (ℓ : Loc nD τ sig) → Buf (Elt F) ℓ) (K : Dev nD × Fin 14 → ℕ) (c : Dev nD)

/-- What a wait on a receive semaphore takes, and gives. -/
def awaits (k : Fin 2) (j : Fin 3) : sProp 𝕄 := iprop(cred (tallyAt (recvCell c k j) () N) ∗ atPos ER (recvCell c k j) 0 ∅ 0)
def arrived (k : Fin 2) (j : Fin 3) : sProp 𝕄 := iprop(rowPts c k j.castSucc fullShare (comm m c) ∗ semVal (recvCell c k j) 0)
/-- What a wait on a send semaphore takes, and gives. -/
def sending (k : Fin 2) (j : Fin 3) : sProp 𝕄 := iprop(cred (tallyAt (sendCell c k j) () N) ∗ atPos ER (sendCell c k j) 0 ∅ 0)
def sent (k : Fin 2) (j : Fin 3) : sProp 𝕄 := iprop(rowPts c k 3 (part j) (comm m c) ∗ semVal (sendCell c k j) 0)

/-- Signals to the peers' entry barriers, the row sums of chunk 0 stored, the wait for the peers' signals. -/
theorem part1_runs (Kt : _ → sProp 𝕄) :
    iprop(known m K ∗ Debt c (dueAll c)
        ∗ (dutyTok ER (entryCell (peer c 0)) 0 (Fin.rev 0) ∗ dutyTok ER (entryCell (peer c 1)) 0 (Fin.rev 1) ∗ dutyTok ER (entryCell (peer c 2)) 0 (Fin.rev 2))
        ∗ (entryPay (peer c 0) (Fin.rev 0) ∗ entryPay (peer c 1) (Fin.rev 1) ∗ entryPay (peer c 2) (Fin.rev 2))
        ∗ cred (tallyAt (entryCell c) () 3) ∗ atPos ER (entryCell c) 0 ∅ 0 ∗ xPts m c ∗ (∃ f, rowPts c 0 3 fullShare f)
        ∗ (∀ v4 v6 v8, Debt c (dueZero c) ∗ (entryPay c 0 ∗ entryPay c 1 ∗ entryPay c 2) ∗ semVal (entryCell c) 0 ∗ xPts m c ∗ rowPts c 0 3 fullShare (comm m c)
            -∗ Kt ⟨c, v4, v6, v8, k0_pay1 (xhalf m 0 c)⟩))
      ⊢ wp frame (wpE (defs₀ (F := F)) 𝒱₀ c none) Set.univ
          (k0_part1 xM (Memref.isWhole_whole _) oM (Memref.isWhole_whole _) cM (Memref.isWhole_whole _) cc0_scratch1 cc0_scratch2 cc0_scoped0) Kt := by
  simp only [k0_part1_eq_skeleton]; unfold k0_part1_skel
  simp only [semSignalWord, semWaitWord, Prog.lift, Prog.bind_op, Prog.bind_ret, Prog.pure_eq_ret, wp_deviceId]
  iintro ⟨#Hk, HO, ⟨Ht0, Ht1, Ht2⟩, ⟨Hp0, Hp1, Hp2⟩, Hc, Ha, Hx, ⟨%f, Hr⟩, Hw⟩
  unfold dueAll
  iapply (step_entry m K c _ 0 (dev1 c) _ (by decide) _) $$ [HO Ht0 Hp0]
  · isplitr; · iexact Hk
    isplitl [HO]; · iexact HO
    isplitl [Ht0]; · iexact Ht0
    iexact Hp0
  iintro HO
  iapply (step_entry m K c _ 1 (dev2 c) _ (by decide) _) $$ [HO Ht1 Hp1]
  · isplitr; · iexact Hk
    isplitl [HO]; · iexact HO
    isplitl [Ht1]; · iexact Ht1
    iexact Hp1
  iintro HO
  iapply (step_entry m K c _ 2 (dev3 c) _ (by decide) _) $$ [HO Ht2 Hp2]
  · isplitr; · iexact Hk
    isplitl [HO]; · iexact HO
    isplitl [Ht2]; · iexact Ht2
    iexact Hp2
  iintro HO
  iapply (step_load_x m c 0) $$ Hx; iintro Hx
  iapply (step_load_row c 0 3 fullShare f) $$ Hr; iintro Hr
  iapply (step_store_own m c 0 f) $$ Hr; iintro Hr
  iapply (step_barrier m K c entryS 0 csem_entry .entry role_entry rfl rfl (dueZero c) (zero_above c (by decide)) _ (by decide)) $$ [HO Hc Ha]
  · isplitr; · iexact Hk
    isplitl [HO]; · iexact HO
    isplitl [Hc]; · iexact Hc
    iexact Ha
  iintro ⟨HO, Hp, Hz⟩
  rw [wp_ret]; imodintro
  iapply Hw
  isplitl [HO]; · iexact HO
  isplitl [Hp]; · unfold pay; iexact Hp
  isplitl [Hz]; · iexact Hz
  isplitl [Hx]; · iexact Hx
  iexact Hr

/-- Copies of chunk 0 to the first two peers. -/
theorem part2_runs (v4 v6 v8 : BitVec 32) (l : List (GSem nD τ sig × ℕ)) (Kt : _ → sProp 𝕄) :
    iprop(known m K ∗ Debt c ((recvCell (peer c 0) 0 0, N) :: (recvCell (peer c 1) 0 1, N) :: l) ∗ toSend m c 0 0 ∗ toSend m c 0 1
        ∗ (Debt c l ∗ cred (tallyAt (sendCell c 0 0) () N) ∗ cred (tallyAt (sendCell c 0 1) () N) -∗ Kt ⟨⟩))
      ⊢ wp frame (wpE (defs₀ (F := F)) 𝒱₀ c none) Set.univ
          (k0_part2 xM (Memref.isWhole_whole _) oM (Memref.isWhole_whole _) cM (Memref.isWhole_whole _) cc0_scratch1 cc0_scratch2 cc0_scoped0 c v4 v6 v8) Kt := by
  simp only [k0_part2_eq_skeleton]; unfold k0_part2_skel
  simp only [semSignalWord, semWaitWord, Prog.lift, Prog.bind_op, Prog.bind_ret, Prog.pure_eq_ret, wp_deviceId]
  iintro ⟨#Hk, HO, H0, H1, Hw⟩
  iapply (step_send m K c _ 0 0 (dev4 c) _) $$ [HO H0]
  · isplitr; · iexact Hk
    isplitl [HO]; · iexact HO
    iexact H0
  iintro ⟨Hc0, HO⟩
  iapply (step_send m K c _ 0 1 (dev5 c) _) $$ [HO H1]
  · isplitr; · iexact Hk
    isplitl [HO]; · iexact HO
    iexact H1
  iintro ⟨Hc1, HO⟩
  rw [wp_ret]; imodintro
  iapply Hw
  isplitl [HO]; · iexact HO
  isplitl [Hc0]; · iexact Hc0
  iexact Hc1

/-- The load of a chunk's rows, the three that arrived held whole and the device's own at its left half. -/
theorem load_slab (k : Fin 2) {α : Type} {Q : α → sProp 𝕄} {hl : cM.view.LoadsAt (slabR k).toLoadRect}
    {kt : Vec F S1x4x1024 .f32 → Prog (TpuEff nD τ sig (Elt F) Λ₀ .tc) α} :
    iprop(rowPts (F := F) c k 0 fullShare (comm m c) ∗ rowPts c k 1 fullShare (comm m c) ∗ rowPts c k 2 fullShare (comm m c) ∗ rowPts c k 3 fullShare.left (comm m c))
      ⊢ iprop((iprop(rowPts (F := F) c k 0 fullShare (comm m c) ∗ rowPts c k 1 fullShare (comm m c) ∗ rowPts c k 2 fullShare (comm m c) ∗ rowPts c k 3 fullShare.left (comm m c))
          -∗ wp frame (wpE (defs₀ (F := F)) 𝒱₀ (c : Thread nD τ) none) Set.univ (kt (slab m k c)) Q)
        -∗ wp frame (wpE (defs₀ (F := F)) 𝒱₀ (c : Thread nD τ) none) Set.univ (.op (.load cM (slabR k).toLoadRect hl) kt) Q) := by
  iintro ⟨H0, H1, H2, H3⟩ Hw
  ihave H0 := (row_halves c k 0 fullShare (comm m c)).1 $$ H0
  icases H0 with ⟨L0, R0⟩
  ihave H1 := (row_halves c k 1 fullShare (comm m c)).1 $$ H1
  icases H1 with ⟨L1, R1⟩
  ihave H2 := (row_halves c k 2 fullShare (comm m c)).1 $$ H2
  icases H2 with ⟨L2, R2⟩
  iapply (step_load_slab m c k fullShare.left) $$ [L0 L1 L2 H3]
  · isplitl [L0]; · iexact L0
    isplitl [L1]; · iexact L1
    isplitl [L2]; · iexact L2
    iexact H3
  iintro ⟨L0, L1, L2, H3⟩
  iapply Hw
  isplitl [L0 R0]
  · iapply (row_halves c k 0 fullShare (comm m c)).2
    isplitl [L0]; · iexact L0
    iexact R0
  isplitl [L1 R1]
  · iapply (row_halves c k 1 fullShare (comm m c)).2
    isplitl [L1]; · iexact L1
    iexact R1
  isplitl [L2 R2]
  · iapply (row_halves c k 2 fullShare (comm m c)).2
    isplitl [L2]; · iexact L2
    iexact R2
  iexact H3

/-- The copy of chunk 0 to the third peer; the row sums of chunk 1 stored; their copy to the first peer. -/
theorem part3_runs (v4 v6 : BitVec 32) (l : List (GSem nD τ sig × ℕ)) (Kt : _ → sProp 𝕄) :
    iprop(known m K ∗ Debt c ((recvCell (peer c 2) 0 2, N) :: (recvCell (peer c 0) 1 0, N) :: l) ∗ toSend m c 0 2 ∗ target c 1 0
        ∗ xPts m c ∗ (∃ f, rowPts c 1 3 fullShare f)
        ∗ (Debt c l ∗ cred (tallyAt (sendCell c 0 2) () N) ∗ cred (tallyAt (sendCell c 1 0) () N) ∗ xPts m c
            ∗ rowPts c 1 3 fullShare.left (comm m c) ∗ rowPts c 1 3 (part 1) (comm m c) ∗ rowPts c 1 3 (part 2) (comm m c)
            -∗ Kt (k0_pay3 (xhalf m 1 c))))
      ⊢ wp frame (wpE (defs₀ (F := F)) 𝒱₀ c none) Set.univ
          (k0_part3 xM (Memref.isWhole_whole _) oM (Memref.isWhole_whole _) cM (Memref.isWhole_whole _) cc0_scratch1 cc0_scratch2 cc0_scoped0 c v4 v6) Kt := by
  simp only [k0_part3_eq_skeleton]; unfold k0_part3_skel
  simp only [semSignalWord, semWaitWord, Prog.lift, Prog.bind_op, Prog.bind_ret, Prog.pure_eq_ret, wp_deviceId]
  iintro ⟨#Hk, HO, H2, H0, Hx, ⟨%f, Hr⟩, Hw⟩
  iapply (step_send m K c _ 0 2 (dev6 c) _) $$ [HO H2]
  · isplitr; · iexact Hk
    isplitl [HO]; · iexact HO
    iexact H2
  iintro ⟨Hc2, HO⟩
  iapply (step_load_x m c 1) $$ Hx; iintro Hx
  iapply (step_load_row c 1 3 fullShare f) $$ Hr; iintro Hr
  iapply (step_store_own m c 1 f) $$ Hr; iintro Hr
  ihave Hr := (row_lend c 1 3 (comm m c)) $$ Hr
  icases Hr with ⟨HrL, Hr0, Hr1, Hr2⟩
  iapply (step_send m K c _ 1 0 (dev7 c) _) $$ [HO H0 Hr0]
  · isplitr; · iexact Hk
    isplitl [HO]; · iexact HO
    unfold toSend
    isplitl [Hr0]; · iexact Hr0
    iexact H0
  iintro ⟨Hc0, HO⟩
  rw [wp_ret]; imodintro
  iapply Hw
  isplitl [HO]; · iexact HO
  isplitl [Hc2]; · iexact Hc2
  isplitl [Hc0]; · iexact Hc0
  isplitl [Hx]; · iexact Hx
  isplitl [HrL]; · iexact HrL
  isplitl [Hr1]; · iexact Hr1
  iexact Hr2

/-- The copies of chunk 1 to the second and third peer; the first peer's row of chunk 0 awaited. -/
theorem part4_runs (v4 v6 v8 : BitVec 32) (Kt : _ → sProp 𝕄) :
    iprop(known m K ∗ Debt c ((recvCell (peer c 1) 1 1, N) :: (recvCell (peer c 2) 1 2, N) :: dueExit c) ∗ toSend m c 1 1 ∗ toSend m c 1 2 ∗ awaits c 0 0
        ∗ (Debt c (dueExit c) ∗ cred (tallyAt (sendCell c 1 1) () N) ∗ cred (tallyAt (sendCell c 1 2) () N) ∗ arrived m c 0 0 -∗ Kt ⟨⟩))
      ⊢ wp frame (wpE (defs₀ (F := F)) 𝒱₀ c none) Set.univ
          (k0_part4 xM (Memref.isWhole_whole _) oM (Memref.isWhole_whole _) cM (Memref.isWhole_whole _) cc0_scratch1 cc0_scratch2 cc0_scoped0 c v4 v6 v8) Kt := by
  simp only [k0_part4_eq_skeleton]; unfold k0_part4_skel
  simp only [semSignalWord, semWaitWord, Prog.lift, Prog.bind_op, Prog.bind_ret, Prog.pure_eq_ret, wp_deviceId]
  iintro ⟨#Hk, HO, H1, H2, Hv, Hw⟩
  iapply (step_send m K c _ 1 1 (dev8 c) _) $$ [HO H1]
  · isplitr; · iexact Hk
    isplitl [HO]; · iexact HO
    iexact H1
  iintro ⟨Hc1, HO⟩
  iapply (step_send m K c _ 1 2 (dev9 c) _) $$ [HO H2]
  · isplitr; · iexact Hk
    isplitl [HO]; · iexact HO
    iexact H2
  iintro ⟨Hc2, HO⟩
  iapply (step_recv m K c 0 0 (dueExit c) (exit_above c (r := .recv 0 0) (by decide)) (src := rowM 0 3) (dst := rowM 0 0) rfl) $$ [HO Hv]
  · isplitr; · iexact Hk
    isplitl [HO]; · iexact HO
    unfold awaits; iexact Hv
  iintro ⟨HO, Hr⟩
  rw [wp_ret]; imodintro
  iapply Hw
  isplitl [HO]; · iexact HO
  isplitl [Hc1]; · iexact Hc1
  isplitl [Hc2]; · iexact Hc2
  unfold arrived; iexact Hr

/-- The other two rows of chunk 0 awaited; chunk 0 of the result stored. -/
theorem part5_runs (v4 v8 : BitVec 32) (v18 : FVec F S1024x1024 .f32) (f) (Kt : _ → sProp 𝕄) :
    iprop(known m K ∗ Debt c (dueExit c) ∗ arrived m c 0 0 ∗ awaits c 0 1 ∗ awaits c 0 2 ∗ rowPts c 0 3 fullShare.left (comm m c) ∗ oPts c f
        ∗ (Debt c (dueExit c) ∗ (arrived m c 0 0 ∗ arrived m c 0 1 ∗ arrived m c 0 2) ∗ rowPts c 0 3 fullShare.left (comm m c)
            ∗ oPts c ((oM.access (halfR 0)).write (Elt F) f (k0_pay5 v18 (slab m 0 c)) Finset.univ) -∗ Kt ⟨⟩))
      ⊢ wp frame (wpE (defs₀ (F := F)) 𝒱₀ c none) Set.univ
          (k0_part5 xM (Memref.isWhole_whole _) oM (Memref.isWhole_whole _) cM (Memref.isWhole_whole _) cc0_scratch1 cc0_scratch2 cc0_scoped0 v4 v8 v18) Kt := by
  simp only [k0_part5_eq_skeleton]; unfold k0_part5_skel
  simp only [semSignalWord, semWaitWord, Prog.lift, Prog.bind_op, Prog.bind_ret, Prog.pure_eq_ret, wp_deviceId]
  iintro ⟨#Hk, HO, Hr0, Hv1, Hv2, Hr3, Ho, Hw⟩
  unfold arrived
  icases Hr0 with ⟨Hr0, Hz0⟩
  iapply (step_recv m K c 0 1 (dueExit c) (exit_above c (r := .recv 0 0) (by decide)) (src := rowM 0 3) (dst := rowM 0 1) rfl) $$ [HO Hv1]
  · isplitr; · iexact Hk
    isplitl [HO]; · iexact HO
    unfold awaits; iexact Hv1
  iintro ⟨HO, ⟨Hr1, Hz1⟩⟩
  iapply (step_recv m K c 0 2 (dueExit c) (exit_above c (r := .recv 0 0) (by decide)) (src := rowM 0 3) (dst := rowM 0 2) rfl) $$ [HO Hv2]
  · isplitr; · iexact Hk
    isplitl [HO]; · iexact HO
    unfold awaits; iexact Hv2
  iintro ⟨HO, ⟨Hr2, Hz2⟩⟩
  iapply (load_slab m c 0) $$ [Hr0 Hr1 Hr2 Hr3]
  · isplitl [Hr0]; · iexact Hr0
    isplitl [Hr1]; · iexact Hr1
    isplitl [Hr2]; · iexact Hr2
    iexact Hr3
  iintro ⟨Hr0, Hr1, Hr2, Hr3⟩
  iapply (step_load_out c 0 f) $$ Ho; iintro Ho
  iapply (step_store_out c 0 f) $$ Ho; iintro Ho
  rw [wp_ret]; imodintro
  iapply Hw
  isplitl [HO]; · iexact HO
  isplitl [Hr0 Hz0 Hr1 Hz1 Hr2 Hz2]
  · isplitl [Hr0 Hz0]
    · isplitl [Hr0]; · iexact Hr0
      iexact Hz0
    isplitl [Hr1 Hz1]
    · isplitl [Hr1]; · iexact Hr1
      iexact Hz1
    isplitl [Hr2]; · iexact Hr2
    iexact Hz2
  isplitl [Hr3]; · iexact Hr3
  iexact Ho

/-- The three rows of chunk 1 awaited, and the four loaded. -/
theorem part6_runs (v6 v8 : BitVec 32) (Kt : _ → sProp 𝕄) :
    iprop(known m K ∗ Debt c (dueExit c) ∗ awaits c 1 0 ∗ awaits c 1 1 ∗ awaits c 1 2 ∗ rowPts c 1 3 fullShare.left (comm m c)
        ∗ (Debt c (dueExit c) ∗ (arrived m c 1 0 ∗ arrived m c 1 1 ∗ arrived m c 1 2) ∗ rowPts c 1 3 fullShare.left (comm m c)
            -∗ Kt (k0_pay6 (slab m 1 c))))
      ⊢ wp frame (wpE (defs₀ (F := F)) 𝒱₀ c none) Set.univ
          (k0_part6 xM (Memref.isWhole_whole _) oM (Memref.isWhole_whole _) cM (Memref.isWhole_whole _) cc0_scratch1 cc0_scratch2 cc0_scoped0 v6 v8) Kt := by
  simp only [k0_part6_eq_skeleton]; unfold k0_part6_skel
  simp only [semSignalWord, semWaitWord, Prog.lift, Prog.bind_op, Prog.bind_ret, Prog.pure_eq_ret, wp_deviceId]
  iintro ⟨#Hk, HO, Hv0, Hv1, Hv2, Hr3, Hw⟩
  unfold arrived
  iapply (step_recv m K c 1 0 (dueExit c) (exit_above c (r := .recv 0 0) (by decide)) (src := rowM 1 3) (dst := rowM 1 0) rfl) $$ [HO Hv0]
  · isplitr; · iexact Hk
    isplitl [HO]; · iexact HO
    unfold awaits; iexact Hv0
  iintro ⟨HO, ⟨Hr0, Hz0⟩⟩
  iapply (step_recv m K c 1 1 (dueExit c) (exit_above c (r := .recv 0 0) (by decide)) (src := rowM 1 3) (dst := rowM 1 1) rfl) $$ [HO Hv1]
  · isplitr; · iexact Hk
    isplitl [HO]; · iexact HO
    unfold awaits; iexact Hv1
  iintro ⟨HO, ⟨Hr1, Hz1⟩⟩
  iapply (step_recv m K c 1 2 (dueExit c) (exit_above c (r := .recv 0 0) (by decide)) (src := rowM 1 3) (dst := rowM 1 2) rfl) $$ [HO Hv2]
  · isplitr; · iexact Hk
    isplitl [HO]; · iexact HO
    unfold awaits; iexact Hv2
  iintro ⟨HO, ⟨Hr2, Hz2⟩⟩
  iapply (load_slab m c 1) $$ [Hr0 Hr1 Hr2 Hr3]
  · isplitl [Hr0]; · iexact Hr0
    isplitl [Hr1]; · iexact Hr1
    isplitl [Hr2]; · iexact Hr2
    iexact Hr3
  iintro ⟨Hr0, Hr1, Hr2, Hr3⟩
  rw [wp_ret]; imodintro
  iapply Hw
  isplitl [HO]; · iexact HO
  isplitl [Hr0 Hz0 Hr1 Hz1 Hr2 Hz2]
  · isplitl [Hr0 Hz0]
    · isplitl [Hr0]; · iexact Hr0
      iexact Hz0
    isplitl [Hr1 Hz1]
    · isplitl [Hr1]; · iexact Hr1
      iexact Hz1
    isplitl [Hr2]; · iexact Hr2
    iexact Hz2
  iexact Hr3

/-- Chunk 1 of the result stored; the copies of chunk 0 awaited. -/
theorem part7_runs (v55 : FVec F S1024x1024 .f32) (v152 : FVec F S1024x1 .f32) (f) (Kt : _ → sProp 𝕄) :
    iprop(known m K ∗ Debt c (dueExit c) ∗ oPts c f ∗ sending c 0 0 ∗ sending c 0 1 ∗ sending c 0 2
        ∗ (Debt c (dueExit c) ∗ oPts c ((oM.access (halfR 1)).write (Elt F) f (k0_pay7 v55 v152) Finset.univ)
            ∗ sent m c 0 0 ∗ sent m c 0 1 ∗ sent m c 0 2 -∗ Kt ⟨⟩))
      ⊢ wp frame (wpE (defs₀ (F := F)) 𝒱₀ c none) Set.univ
          (k0_part7 xM (Memref.isWhole_whole _) oM (Memref.isWhole_whole _) cM (Memref.isWhole_whole _) cc0_scratch1 cc0_scratch2 cc0_scoped0 v55 v152) Kt := by
  simp only [k0_part7_eq_skeleton]; unfold k0_part7_skel
  simp only [semSignalWord, semWaitWord, Prog.lift, Prog.bind_op, Prog.bind_ret, Prog.pure_eq_ret, wp_deviceId]
  iintro ⟨#Hk, HO, Ho, Hs0, Hs1, Hs2, Hw⟩
  iapply (step_load_out c 1 f) $$ Ho; iintro Ho
  iapply (step_store_out c 1 f) $$ Ho; iintro Ho
  iapply (step_sent m K c 0 0 (dueExit c) (exit_above c (r := .other) (by decide)) (src := rowM 0 0) (dst := rowM 0 3) rfl) $$ [HO Hs0]
  · isplitr; · iexact Hk
    isplitl [HO]; · iexact HO
    unfold sending; iexact Hs0
  iintro ⟨HO, Hs0⟩
  iapply (step_sent m K c 0 1 (dueExit c) (exit_above c (r := .other) (by decide)) (src := rowM 0 1) (dst := rowM 0 3) rfl) $$ [HO Hs1]
  · isplitr; · iexact Hk
    isplitl [HO]; · iexact HO
    unfold sending; iexact Hs1
  iintro ⟨HO, Hs1⟩
  iapply (step_sent m K c 0 2 (dueExit c) (exit_above c (r := .other) (by decide)) (src := rowM 0 2) (dst := rowM 0 3) rfl) $$ [HO Hs2]
  · isplitr; · iexact Hk
    isplitl [HO]; · iexact HO
    unfold sending; iexact Hs2
  iintro ⟨HO, Hs2⟩
  rw [wp_ret]; imodintro
  iapply Hw
  isplitl [HO]; · iexact HO
  isplitl [Ho]; · iexact Ho
  isplitl [Hs0]; · unfold sent; iexact Hs0
  isplitl [Hs1]; · unfold sent; iexact Hs1
  unfold sent; iexact Hs2

/-- The copies of chunk 1 awaited; the signal to the first peer's exit barrier. -/
theorem part8_runs (v4 : BitVec 32) (Kt : _ → sProp 𝕄) :
    iprop(known m K ∗ Debt c (dueExit c) ∗ sending c 1 0 ∗ sending c 1 1 ∗ sending c 1 2 ∗ dutyTok ER (exitCell (peer c 0)) 0 (Fin.rev 0)
        ∗ (Debt c [(exitCell (peer c 1), 1), (exitCell (peer c 2), 1)] ∗ sent m c 1 0 ∗ sent m c 1 1 ∗ sent m c 1 2 -∗ Kt ⟨⟩))
      ⊢ wp frame (wpE (defs₀ (F := F)) 𝒱₀ c none) Set.univ
          (k0_part8 xM (Memref.isWhole_whole _) oM (Memref.isWhole_whole _) cM (Memref.isWhole_whole _) cc0_scratch1 cc0_scratch2 cc0_scoped0 c v4) Kt := by
  simp only [k0_part8_eq_skeleton]; unfold k0_part8_skel
  simp only [semSignalWord, semWaitWord, Prog.lift, Prog.bind_op, Prog.bind_ret, Prog.pure_eq_ret, wp_deviceId]
  iintro ⟨#Hk, HO, Hs0, Hs1, Hs2, Ht, Hw⟩
  iapply (step_sent m K c 1 0 (dueExit c) (exit_above c (r := .other) (by decide)) (src := rowM 1 0) (dst := rowM 1 3) rfl) $$ [HO Hs0]
  · isplitr; · iexact Hk
    isplitl [HO]; · iexact HO
    unfold sending; iexact Hs0
  iintro ⟨HO, Hs0⟩
  iapply (step_sent m K c 1 1 (dueExit c) (exit_above c (r := .other) (by decide)) (src := rowM 1 1) (dst := rowM 1 3) rfl) $$ [HO Hs1]
  · isplitr; · iexact Hk
    isplitl [HO]; · iexact HO
    unfold sending; iexact Hs1
  iintro ⟨HO, Hs1⟩
  iapply (step_sent m K c 1 2 (dueExit c) (exit_above c (r := .other) (by decide)) (src := rowM 1 2) (dst := rowM 1 3) rfl) $$ [HO Hs2]
  · isplitr; · iexact Hk
    isplitl [HO]; · iexact HO
    unfold sending; iexact Hs2
  iintro ⟨HO, Hs2⟩
  unfold dueExit
  iapply (step_exit m K c _ 0 (dev10 c) _ (by decide) _) $$ [HO Ht]
  · isplitr; · iexact Hk
    isplitl [HO]; · iexact HO
    iexact Ht
  iintro HO
  rw [wp_ret]; imodintro
  iapply Hw
  isplitl [HO]; · iexact HO
  isplitl [Hs0]; · unfold sent; iexact Hs0
  isplitl [Hs1]; · unfold sent; iexact Hs1
  unfold sent; iexact Hs2

end Cert.KernelIdeal.Exchange

end
-- ==== Proof.KernelIdeal.Body.lean ====
/-
The kernel's body on one device, whole: from what the launch gives the device to what it must give back, with the device's
block of the result computed.
-/
module

public import proofs.«01_k».proof.Proof.KernelIdeal.Parts

@[expose] public section

noncomputable section

namespace Cert.KernelIdeal.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## What the launch gives a device -/

omit [FloatOps F] in
theorem over_copies (Φ : Fin 2 × Fin 3 → sProp 𝕄) : bigSep Finset.univ Φ
    = iprop((Φ (0, 0) ∗ Φ (0, 1) ∗ Φ (0, 2)) ∗ Φ (1, 0) ∗ Φ (1, 1) ∗ Φ (1, 2)) := by
  rw [bigSep_univ_prod, over_fin2, over_fin3, over_fin3]

omit [FloatOps F] in
theorem over_cells (Φ : Fin 14 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13) :=
  bigSep_univ_eq_bigSepL [0, 1, 2, 3, 4, 5, 6, 7, 8, 9, 10, 11, 12, 13] (by decide) (by decide) Φ

variable (c : Dev nD)

/-- The device at the beginning of each of its semaphores' rounds. -/
def positions : sProp 𝕄 := bigSep Finset.univ fun i : Fin 14 => atPos ER (kcell (c, i)) 0 ∅ 0

/-- The device's semaphores, each at zero. -/
def zeros : sProp 𝕄 := bigSep Finset.univ fun i : Fin 14 => semVal (kcell (c, i)) 0

/-- The rights to make the additions the device makes: to its peers' barriers and receive semaphores, and to its own send
    semaphores. -/
def rights : sProp 𝕄 :=
  iprop((bigSep Finset.univ fun j : Fin 3 => dutyTok ER (entryCell (peer c j)) 0 j.rev)
    ∗ (bigSep Finset.univ fun j : Fin 3 => dutyTok ER (exitCell (peer c j)) 0 j.rev)
    ∗ (bigSep Finset.univ fun kj : Fin 2 × Fin 3 => dutyTok ER (sendCell c kj.1 kj.2) 0 0)
    ∗ bigSep Finset.univ fun kj : Fin 2 × Fin 3 => dutyTok ER (recvCell (peer c kj.2) kj.1 kj.2) 0 0)

/-- The credit for what its peers will add to its semaphores. -/
def credits : sProp 𝕄 :=
  iprop(cred (tallyAt (entryCell c) () 3) ∗ cred (tallyAt (exitCell c) () 3)
    ∗ bigSep Finset.univ fun kj : Fin 2 × Fin 3 => cred (tallyAt (recvCell c kj.1 kj.2) () N))

omit [FloatOps F] in
theorem positions_eq : (positions (F := F) c) = iprop(atPos ER (entryCell c) 0 ∅ 0 ∗ atPos ER (exitCell c) 0 ∅ 0
    ∗ atPos ER (sendCell c 0 0) 0 ∅ 0 ∗ atPos ER (sendCell c 0 1) 0 ∅ 0 ∗ atPos ER (sendCell c 0 2) 0 ∅ 0
    ∗ atPos ER (sendCell c 1 0) 0 ∅ 0 ∗ atPos ER (sendCell c 1 1) 0 ∅ 0 ∗ atPos ER (sendCell c 1 2) 0 ∅ 0
    ∗ atPos ER (recvCell c 0 0) 0 ∅ 0 ∗ atPos ER (recvCell c 0 1) 0 ∅ 0 ∗ atPos ER (recvCell c 0 2) 0 ∅ 0
    ∗ atPos ER (recvCell c 1 0) 0 ∅ 0 ∗ atPos ER (recvCell c 1 1) 0 ∅ 0 ∗ atPos ER (recvCell c 1 2) 0 ∅ 0) := by
  unfold positions; rw [over_cells]; rfl

omit [FloatOps F] in
theorem zeros_eq : (zeros (F := F) c) = iprop(semVal (entryCell c) 0 ∗ semVal (exitCell c) 0
    ∗ semVal (sendCell c 0 0) 0 ∗ semVal (sendCell c 0 1) 0 ∗ semVal (sendCell c 0 2) 0
    ∗ semVal (sendCell c 1 0) 0 ∗ semVal (sendCell c 1 1) 0 ∗ semVal (sendCell c 1 2) 0
    ∗ semVal (recvCell c 0 0) 0 ∗ semVal (recvCell c 0 1) 0 ∗ semVal (recvCell c 0 2) 0
    ∗ semVal (recvCell c 1 0) 0 ∗ semVal (recvCell c 1 1) 0 ∗ semVal (recvCell c 1 2) 0) := by
  unfold zeros; rw [over_cells]; rfl

/-- The exchange buffer, whole, at contents `f`. -/
def bufPts (f : (cc0_scratch0 : Ref sig .tc).ty.Contents (Elt F)) : sProp 𝕄 := ((c : Thread nD τ).loc cc0_scratch0) ↦{fullShare} f

variable (m : (ℓ : Loc nD τ sig) → Buf (Elt F) ℓ) (K : Dev nD × Fin 14 → ℕ)

/-- What the body begins with, beside what is known throughout. -/
def before : sProp 𝕄 :=
  iprop(positions c ∗ rights c ∗ credits c ∗ Debt c (dueAll c) ∗ (∃ f, bufPts c f) ∗ xPts m c ∗ ∃ g, oPts c g)

/-- What it ends with. -/
def after : sProp 𝕄 := iprop(zeros c ∗ Debt c [] ∗ bufPts c (comm m c) ∗ xPts m c ∗ oPts c (outAt m c))

set_option maxHeartbeats 1600000 in
/-- The body takes the one to the other. -/
theorem body_runs (Kt : PUnit → sProp 𝕄) :
    iprop(known m K ∗ before c m ∗ (after c m -∗ Kt ⟨⟩))
      ⊢ wp frame (wpE (defs₀ (F := F)) 𝒱₀ c none) Set.univ
          (cc0_body xM (Memref.isWhole_whole _) oM (Memref.isWhole_whole _) cM (Memref.isWhole_whole _) cc0_scratch1 cc0_scratch2 cc0_scoped0) Kt := by
  simp only [cc0_body_eq_skeleton]; unfold cc0_body_skel
  unfold before rights credits bufPts
  rw [positions_eq, over_fin3, over_fin3, over_copies, over_copies, over_copies]
  iintro ⟨#Hk, ⟨⟨Ae, Ax, S00, S01, S02, S10, S11, S12, V00, V01, V02, V10, V11, V12⟩,
    ⟨⟨Te0, Te1, Te2⟩, ⟨Tx0, Tx1, Tx2⟩, ⟨⟨Ts00, Ts01, Ts02⟩, Ts10, Ts11, Ts12⟩, ⟨Tv00, Tv01, Tv02⟩, Tv10, Tv11, Tv12⟩,
    ⟨Ce, Cx, ⟨Cv00, Cv01, Cv02⟩, Cv10, Cv11, Cv12⟩, HO, ⟨%f, Hb⟩, Hx, ⟨%g, Ho⟩⟩, Hw⟩
  ihave Hb := (Entails.of_eq (buf_of_rows c fullShare f)) $$ Hb
  icases Hb with ⟨⟨R00, R01, R02, R03⟩, R10, R11, R12, R13⟩
  -- part 1
  rw [wp_bind]
  iapply (part1_runs m K c _)
  isplitr; · iexact Hk
  isplitl [HO]; · iexact HO
  isplitl [Te0 Te1 Te2]
  · isplitl [Te0]; · iexact Te0
    isplitl [Te1]; · iexact Te1
    iexact Te2
  isplitl [R00 R01 R02 R10 R11 R12]
  · rw [entryPay_rev c 0, entryPay_rev c 1, entryPay_rev c 2]
    isplitl [R02 R12]
    · isplitl [R02]; · iexists f; iexact R02
      iexists f; iexact R12
    isplitl [R01 R11]
    · isplitl [R01]; · iexists f; iexact R01
      iexists f; iexact R11
    isplitl [R00]; · iexists f; iexact R00
    iexists f; iexact R10
  isplitl [Ce]; · iexact Ce
  isplitl [Ae]; · iexact Ae
  isplitl [Hx]; · iexact Hx
  isplitl [R03]; · iexists f; iexact R03
  iintro %v4 %v6 %v8 ⟨HO, ⟨Hp0, Hp1, Hp2⟩, Ze, Hx, R03⟩
  unfold entryPay
  icases Hp0 with ⟨P00, P10⟩
  icases Hp1 with ⟨P01, P11⟩
  icases Hp2 with ⟨P02, P12⟩
  ihave R03 := (row_lend c 0 3 (comm m c)) $$ R03
  icases R03 with ⟨L0, Q00, Q01, Q02⟩
  dsimp only
  -- part 2
  rw [wp_bind]
  unfold dueZero dueOne
  iapply (part2_runs m K c v4 v6 v8 _ _)
  isplitr; · iexact Hk
  isplitl [HO]; · iexact HO
  unfold toSend target
  isplitl [Q00 P00 Ts00 Tv00]
  · isplitl [Q00]; · iexact Q00
    isplitl [P00]; · iexact P00
    isplitl [Ts00]; · iexact Ts00
    iexact Tv00
  isplitl [Q01 P01 Ts01 Tv01]
  · isplitl [Q01]; · iexact Q01
    isplitl [P01]; · iexact P01
    isplitl [Ts01]; · iexact Ts01
    iexact Tv01
  iintro ⟨HO, Cs00, Cs01⟩
  -- part 3
  rw [wp_bind]
  iapply (part3_runs m K c v4 v6 _ _)
  unfold toSend target
  isplitr; · iexact Hk
  isplitl [HO]; · iexact HO
  isplitl [Q02 P02 Ts02 Tv02]
  · isplitl [Q02]; · iexact Q02
    isplitl [P02]; · iexact P02
    isplitl [Ts02]; · iexact Ts02
    iexact Tv02
  isplitl [P10 Ts10 Tv10]
  · isplitl [P10]; · iexact P10
    isplitl [Ts10]; · iexact Ts10
    iexact Tv10
  isplitl [Hx]; · iexact Hx
  isplitl [R13]; · iexists f; iexact R13
  iintro ⟨HO, Cs02, Cs10, Hx, L1, Q11, Q12⟩
  -- part 4
  rw [wp_bind]
  iapply (part4_runs m K c v4 v6 v8 _)
  unfold toSend target
  isplitr; · iexact Hk
  isplitl [HO]; · iexact HO
  isplitl [Q11 P11 Ts11 Tv11]
  · isplitl [Q11]; · iexact Q11
    isplitl [P11]; · iexact P11
    isplitl [Ts11]; · iexact Ts11
    iexact Tv11
  isplitl [Q12 P12 Ts12 Tv12]
  · isplitl [Q12]; · iexact Q12
    isplitl [P12]; · iexact P12
    isplitl [Ts12]; · iexact Ts12
    iexact Tv12
  isplitl [Cv00 V00]
  · unfold awaits
    isplitl [Cv00]; · iexact Cv00
    iexact V00
  iintro ⟨HO, Cs11, Cs12, D00⟩
  -- part 5
  rw [wp_bind]
  iapply (part5_runs m K c v4 v8 _ g _)
  isplitr; · iexact Hk
  isplitl [HO]; · iexact HO
  isplitl [D00]; · iexact D00
  unfold awaits
  isplitl [Cv01 V01]
  · isplitl [Cv01]; · iexact Cv01
    iexact V01
  isplitl [Cv02 V02]
  · isplitl [Cv02]; · iexact Cv02
    iexact V02
  isplitl [L0]; · iexact L0
  isplitl [Ho]; · iexact Ho
  iintro ⟨HO, ⟨D00, D01, D02⟩, L0, Ho⟩
  -- part 6
  rw [wp_bind]
  iapply (part6_runs m K c v6 v8 _)
  unfold awaits
  isplitr; · iexact Hk
  isplitl [HO]; · iexact HO
  isplitl [Cv10 V10]
  · isplitl [Cv10]; · iexact Cv10
    iexact V10
  isplitl [Cv11 V11]
  · isplitl [Cv11]; · iexact Cv11
    iexact V11
  isplitl [Cv12 V12]
  · isplitl [Cv12]; · iexact Cv12
    iexact V12
  isplitl [L1]; · iexact L1
  iintro ⟨HO, ⟨D10, D11, D12⟩, L1⟩
  -- part 7
  rw [wp_bind]
  iapply (part7_runs m K c _ _ _ _)
  unfold sending
  isplitr; · iexact Hk
  isplitl [HO]; · iexact HO
  isplitl [Ho]; · iexact Ho
  isplitl [Cs00 S00]
  · isplitl [Cs00]; · iexact Cs00
    iexact S00
  isplitl [Cs01 S01]
  · isplitl [Cs01]; · iexact Cs01
    iexact S01
  isplitl [Cs02 S02]
  · isplitl [Cs02]; · iexact Cs02
    iexact S02
  iintro ⟨HO, Ho, E00, E01, E02⟩
  -- part 8
  rw [wp_bind]
  iapply (part8_runs m K c v4 _)
  unfold sending
  isplitr; · iexact Hk
  isplitl [HO]; · iexact HO
  isplitl [Cs10 S10]
  · isplitl [Cs10]; · iexact Cs10
    iexact S10
  isplitl [Cs11 S11]
  · isplitl [Cs11]; · iexact Cs11
    iexact S11
  isplitl [Cs12 S12]
  · isplitl [Cs12]; · iexact Cs12
    iexact S12
  isplitl [Tx0]; · iexact Tx0
  iintro ⟨HO, E10, E11, E12⟩
  -- the rest
  simp only [semSignalWord, semWaitWord, Prog.lift, Prog.bind_op, Prog.bind_ret, Prog.pure_eq_ret]
  iapply (step_exit m K c _ 1 (dev11 c) _ (by decide) _) $$ [HO Tx1]
  · isplitr; · iexact Hk
    isplitl [HO]; · iexact HO
    iexact Tx1
  iintro HO
  iapply (step_exit m K c _ 2 (dev12 c) _ (by decide) _) $$ [HO Tx2]
  · isplitr; · iexact Hk
    isplitl [HO]; · iexact HO
    iexact Tx2
  iintro HO
  iapply (step_barrier m K c exitS 1 csem_exit .exit role_exit rfl rfl [] (fun x hx => absurd hx List.not_mem_nil) _ (by decide)) $$ [HO Cx Ax]
  · isplitr; · iexact Hk
    isplitl [HO]; · iexact HO
    isplitl [Cx]; · iexact Cx
    iexact Ax
  iintro ⟨HO, -, Zx⟩
  rw [wp_ret]; imodintro
  iapply Hw
  unfold after arrived sent bufPts
  icases D00 with ⟨R00, Y00⟩
  icases D01 with ⟨R01, Y01⟩
  icases D02 with ⟨R02, Y02⟩
  icases D10 with ⟨R10, Y10⟩
  icases D11 with ⟨R11, Y11⟩
  icases D12 with ⟨R12, Y12⟩
  icases E00 with ⟨Q00, Z00⟩
  icases E01 with ⟨Q01, Z01⟩
  icases E02 with ⟨Q02, Z02⟩
  icases E10 with ⟨Q10, Z10⟩
  icases E11 with ⟨Q11, Z11⟩
  icases E12 with ⟨Q12, Z12⟩
  isplitl [Ze Zx Y00 Y01 Y02 Y10 Y11 Y12 Z00 Z01 Z02 Z10 Z11 Z12]
  · rw [zeros_eq]
    isplitl [Ze]; · iexact Ze
    isplitl [Zx]; · iexact Zx
    isplitl [Z00]; · iexact Z00
    isplitl [Z01]; · iexact Z01
    isplitl [Z02]; · iexact Z02
    isplitl [Z10]; · iexact Z10
    isplitl [Z11]; · iexact Z11
    isplitl [Z12]; · iexact Z12
    isplitl [Y00]; · iexact Y00
    isplitl [Y01]; · iexact Y01
    isplitl [Y02]; · iexact Y02
    isplitl [Y10]; · iexact Y10
    isplitl [Y11]; · iexact Y11
    iexact Y12
  isplitl [HO]; · iexact HO
  isplitl [R00 R01 R02 L0 Q00 Q01 Q02 R10 R11 R12 L1 Q10 Q11 Q12]
  · rw [buf_of_rows]
    isplitl [R00 R01 R02 L0 Q00 Q01 Q02]
    · isplitl [R00]; · iexact R00
      isplitl [R01]; · iexact R01
      isplitl [R02]; · iexact R02
      iapply (row_back c 0 3 (comm m c))
      isplitl [L0]; · iexact L0
      isplitl [Q00]; · iexact Q00
      isplitl [Q01]; · iexact Q01
      iexact Q02
    isplitl [R10]; · iexact R10
    isplitl [R11]; · iexact R11
    isplitl [R12]; · iexact R12
    iapply (row_back c 1 3 (comm m c))
    isplitl [L1]; · iexact L1
    isplitl [Q10]; · iexact Q10
    isplitl [Q11]; · iexact Q11
    iexact Q12
  isplitl [Hx]; · iexact Hx
  rw [← store_halves m c g]
  iexact Ho

end Cert.KernelIdeal.Exchange

end
-- ==== Proof.KernelIdeal.Launch.lean ====
/-
The launch on the four devices: the body's obligation to the pipeline, the protocol's resources dealt out, and the run.
-/
module

public import proofs.«01_k».proof.Proof.KernelIdeal.Body
public import proofs.«01_k».proof.Proof.Gen.KernelIdeal.Frame
public import Idealize.ShloMosaic.Lib.Pipeline.CollectiveSegs

@[expose] public section

noncomputable section

namespace Cert.KernelIdeal.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The body's obligation -/

/-- What the launch makes for device `c`: the invariants of all devices' semaphores under some names, its positions, its
    rights. -/
def dealt (c : Dev nD) : sProp 𝕄 :=
  iprop((∃ K : Dev nD × Fin 14 → ℕ, (bigSep Finset.univ fun ci : Dev nD × Fin 14 => cellInv ER (sched m) (K ci) (kcell ci))
      ∗ bigSep Finset.univ fun ci : Dev nD × Fin 14 => reached ER (kcell ci) 0)
    ∗ positions c ∗ rights c)

/-- What device `c` begins with beside its buffers. -/
def start (c : Dev nD) : sProp 𝕄 := iprop(dealt m c ∗ credits c ∗ levAts L lv)

/-- What device `c` holds beside its staging buffers, before the body and after. -/
def holds₀ (c : Dev nD) : sProp 𝕄 := iprop(start m c ∗ ∃ f, bufPts c f)
def holds₁ (c : Dev nD) : sProp 𝕄 := iprop(zeros c ∗ bufPts c (comm m c))

/-- The pipeline's data: the block of `x` stays, the block of the result is computed, and the debts are paid. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m c
    | ⟨1, _⟩ => outAt m c
  Φ t := match t with
    | ⟨0, _⟩ => holds₀ m c
    | ⟨_ + 1, _⟩ => holds₁ m c
  q _ := fullShare
  owed t := match t with
    | ⟨0, _⟩ => owe (dueAll c)
    | ⟨_ + 1, _⟩ => 0

theorem fetched (t : Fin cfg0.N) : (cfg0.win (0 : Fin 2)).fetch t = true := by rw [fin_N0 t]; rfl

omit [FloatOps F] in
theorem owns_buffer (c : Dev nD) (b : Ref sig .tc) (X : b.ty.Contents (Elt F)) :
    (owns (Ix := Unit) (Name := ℕ) (U := UU) (Lvl := ℕ) (c : Thread nD τ) (Memref.whole b) fullShare X : sProp 𝕄)
      = (((c : Thread nD τ).loc b) ↦{fullShare} X) := by
  unfold owns
  simp only [Memref.view_whole, View.read_whole, View.set_whole]
  refine BI.equiv_iff.mp ⟨?_, ?_⟩
  · show iprop(∃ f : Buf (Elt F) ((c : Thread nD τ).loc b), ⌜f = X⌝ ∗ (((c : Thread nD τ).loc b) ↦{fullShare} f)) ⊢ _
    iintro ⟨%f, %hf, H⟩; subst hf; iexact H
  · show _ ⊢ iprop(∃ f : Buf (Elt F) ((c : Thread nD τ).loc b), ⌜f = X⌝ ∗ (((c : Thread nD τ).loc b) ↦{fullShare} f))
    iintro H; iexists X
    isplitr; · (ipureintro; rfl)
    iexact H

set_option maxRecDepth 4000 in
theorem body_obligation (c : Dev nD) : BodyObligation (dats (F := F) m ρ 0 c) (defs₀ (F := F)) 𝒱₀ () Set.univ := fun t => by
  rw [fin_N0 t]
  rw [bigSep_W0, bigSep_W0]
  show iprop(holds₀ m c ∗ (dats m ρ 0 c).owesAt () t0_0.castSucc
      ∗ (∃ d, owns (c : Thread nD τ) (Memref.whole cc0_stg0_0) fullShare ((dats m ρ 0 c).before (0 : Fin 2) t0_0 d))
      ∗ (∃ d, owns (c : Thread nD τ) (Memref.whole cc0_stg1_0) fullShare ((dats m ρ 0 c).before (1 : Fin 2) t0_0 d)))
    ⊢ wp frame (wpE (defs₀ (F := F)) 𝒱₀ c none) Set.univ
        (cc0_body xM (Memref.isWhole_whole _) oM (Memref.isWhole_whole _) cM (Memref.isWhole_whole _) cc0_scratch1 cc0_scratch2 cc0_scoped0)
        (fun _ => iprop(holds₁ m c ∗ (dats m ρ 0 c).owesAt () t0_0.succ
          ∗ owns (c : Thread nD τ) (Memref.whole cc0_stg0_0) fullShare (xstg m c)
          ∗ owns (c : Thread nD τ) (Memref.whole cc0_stg1_0) fullShare (outAt m c)))
  simp only [owns_buffer]
  unfold holds₀ start dealt holds₁ Dat.owesAt Pipeline.owesWithin
  rw [show (dats m ρ 0 c).owed t0_0.castSucc = owe (dueAll c) from rfl, show (dats m ρ 0 c).owed t0_0.succ = 0 from rfl]
  iintro ⟨⟨⟨⟨⟨%K, #HI, #HR⟩, HP, HT⟩, HC, #HL⟩, Hb⟩, ⟨%W, %hW, HO⟩, ⟨%d0, Hx⟩, ⟨%d1, Ho⟩⟩
  have hx : (dats m ρ 0 c).before (0 : Fin 2) t0_0 d0 = xstg m c := by unfold Dat.before; rw [if_pos (fetched t0_0)]; rfl
  rw [hx]
  iapply (body_runs c m K _)
  unfold before after known Debt xPts oPts
  isplitr
  · isplitr; · iexact HI
    isplitr; · iexact HR
    iexact HL
  isplitl
  · isplitl [HP]; · iexact HP
    isplitl [HT]; · iexact HT
    isplitl [HC]; · iexact HC
    isplitl [HO]; · iexists W; iexact HO
    isplitl [Hb]; · iexact Hb
    isplitl [Hx]; · iexact Hx
    iexists _; iexact Ho
  iintro ⟨HZ, ⟨%W', HO⟩, Hb, Hx, Ho⟩
  isplitl [HZ Hb]
  · isplitl [HZ] <;> iassumption
  isplitl [HO]
  · iexists W'
    isplitr; · ipureintro; exact fun _ _ => Or.inl trivial
    iexact HO
  isplitl [Hx]; · iexact Hx
  iexact Ho

/-! ## The semaphores of a device -/

/-- The kernel's own semaphores: all the protocol's but the entry barrier. -/
abbrev ownSem (i : Fin 13) : SemLoc sig := csem i.succ

theorem ownSemFacts : Pipeline.OwnSemFacts cfg0.spec ownSem := by decide

theorem kcell_injective : Function.Injective (kcell : Dev nD × Fin 14 → GSem nD τ sig) := by
  rintro ⟨c, i⟩ ⟨c', i'⟩ h
  have h1 : c = c' := congrArg (fun g : GSem nD τ sig => g.1.1) h
  have h2 : i = i' := csem_injective (congrArg Prod.snd h)
  rw [h1, h2]

omit [FloatOps F] in
theorem ownSems_eq (c : Dev nD) : (Pipeline.ownSems0 (Ix := Unit) (Name := ℕ) (U := UU) (Lvl := ℕ) (Val := Elt F) (τ := τ) ownSem c : sProp 𝕄)
    = iprop(semVal (kcell (c, 1)) 0 ∗ semVal (kcell (c, 2)) 0 ∗ semVal (kcell (c, 3)) 0 ∗ semVal (kcell (c, 4)) 0 ∗ semVal (kcell (c, 5)) 0
      ∗ semVal (kcell (c, 6)) 0 ∗ semVal (kcell (c, 7)) 0 ∗ semVal (kcell (c, 8)) 0 ∗ semVal (kcell (c, 9)) 0 ∗ semVal (kcell (c, 10)) 0
      ∗ semVal (kcell (c, 11)) 0 ∗ semVal (kcell (c, 12)) 0 ∗ semVal (kcell (c, 13)) 0) := by
  rw [Pipeline.ownSems0_eq_of_list c ownSem [0, 1, 2, 3, 4, 5, 6, 7, 8, 9, 10, 11, 12] (by decide) (by decide)]; rfl

omit [FloatOps F] in
theorem barrier_eq (c : Dev nD) : (unscopedSems0 c : sProp 𝕄) = semVal (kcell (c, 0)) 0 := by
  unfold unscopedSems0; rw [bigSep_eq_bigSepL_of_eq [SemLoc.reg entryS] (by decide) (by decide)]; rfl

omit [FloatOps F] in
/-- Together they are the fourteen, each at zero. -/
theorem zeros_split (c : Dev nD) :
    (zeros c : sProp 𝕄) = iprop(unscopedSems0 c ∗ Pipeline.ownSems0 (Ix := Unit) (Name := ℕ) (U := UU) (Lvl := ℕ) (Val := Elt F) (τ := τ) ownSem c) := by
  unfold zeros; rw [over_cells, ownSems_eq, barrier_eq]

/-! ## The protocol's resources, made and dealt -/

def cells : Finset (GSem nD τ sig) := Finset.univ.map ⟨kcell, kcell_injective⟩

/-- A right for each semaphore and each name. -/
def mint (x : (Dev nD × Fin 14) × Fin 3) : GSem nD τ sig × ℕ × Fin 3 := (kcell x.1, 0, x.2)

theorem mint_injective : Function.Injective mint := fun x y h =>
  Prod.ext (kcell_injective (congrArg Prod.fst h)) (congrArg (fun z : GSem nD τ sig × ℕ × Fin 3 => z.2.2) h)

def minted : Finset (GSem nD τ sig × ℕ × Fin 3) := Finset.univ.map ⟨mint, mint_injective⟩

def u₀ : UU := (initOf (Pipeline.cells cfgs cellOf_inj) (Pipeline.launchToks cfgs cellOf_inj), initOf cells minted)

/-- The rights on the device's own semaphores. -/
def ownRights (c : Dev nD) : sProp 𝕄 :=
  iprop((bigSep Finset.univ fun d : Fin 3 => dutyTok ER (entryCell c) 0 d)
    ∗ (bigSep Finset.univ fun d : Fin 3 => dutyTok ER (exitCell c) 0 d)
    ∗ (bigSep Finset.univ fun kj : Fin 2 × Fin 3 => dutyTok ER (sendCell c kj.1 kj.2) 0 0)
    ∗ bigSep Finset.univ fun kj : Fin 2 × Fin 3 => dutyTok ER (recvCell c kj.1 kj.2) 0 0)

/-- What is made for device `c` before the launch. -/
def made (c : Dev nD) : sProp 𝕄 :=
  iprop((bigSep Finset.univ fun i : Fin 14 => roundState ER (sched m) (kcell (c, i)) 0)
    ∗ (bigSep Finset.univ fun i : Fin 14 => reached ER (kcell (c, i)) 0) ∗ positions c ∗ ownRights c)

omit [FloatOps F] in
/-- Of the rights on a device's semaphores those the schedule uses are kept. -/
theorem keep_rights (c : Dev nD) :
    (bigSep Finset.univ fun i : Fin 14 => bigSep Finset.univ fun d : Fin 3 => (dutyTok ER (kcell (c, i)) 0 d : sProp 𝕄)) ⊢ ownRights c := by
  have one (i : Fin 14) : (bigSep Finset.univ fun d : Fin 3 => (dutyTok ER (kcell (c, i)) 0 d : sProp 𝕄)) ⊢ dutyTok ER (kcell (c, i)) 0 0 :=
    bigSep_elim (Finset.mem_univ 0)
  unfold ownRights
  rw [over_cells, over_copies, over_copies]
  iintro ⟨H0, H1, H2, H3, H4, H5, H6, H7, H8, H9, H10, H11, H12, H13⟩
  isplitl [H0]; · iexact H0
  isplitl [H1]; · iexact H1
  isplitl [H2 H3 H4 H5 H6 H7]
  · isplitl [H2 H3 H4]
    · isplitl [H2]; · iapply (one 2); iexact H2
      isplitl [H3]; · iapply (one 3); iexact H3
      iapply (one 4); iexact H4
    isplitl [H5]; · iapply (one 5); iexact H5
    isplitl [H6]; · iapply (one 6); iexact H6
    iapply (one 7); iexact H7
  isplitl [H8 H9 H10]
  · isplitl [H8]; · iapply (one 8); iexact H8
    isplitl [H9]; · iapply (one 9); iexact H9
    iapply (one 10); iexact H10
  isplitl [H11]; · iapply (one 11); iexact H11
  isplitl [H12]; · iapply (one 12); iexact H12
  iapply (one 13); iexact H13

theorem make : BI.own (ER (initOf cells minted)) ⊢ (|==> bigSep Finset.univ (made m) : sProp 𝕄) := by
  have hC (Φ : GSem nD τ sig → sProp 𝕄) : bigSep cells Φ = bigSep Finset.univ fun c : Dev nD => bigSep Finset.univ fun i : Fin 14 => Φ (kcell (c, i)) := by
    unfold cells; rw [bigSep_map, bigSep_univ_prod]; rfl
  have hM : bigSep minted (fun x => (dutyTok ER x.1 x.2.1 x.2.2 : sProp 𝕄)) ⊢ bigSep Finset.univ fun c : Dev nD => ownRights c := by
    unfold minted
    rw [bigSep_map, bigSep_univ_prod, bigSep_univ_prod]
    exact bigSep_mono fun c _ => keep_rights c
  iintro H
  imod (Rounds.fund ER (sched m) cells minted) $$ H with ⟨Hst, Hr, Hat, Htok⟩
  imodintro
  ihave Hst := (Entails.of_eq (hC fun g => roundState ER (sched m) g 0)) $$ Hst
  ihave Hat := (Entails.of_eq (hC fun g => atPos ER g 0 ∅ 0)) $$ Hat
  ihave Hr := (Entails.of_eq (hC fun g => reached ER g 0)) $$ Hr
  ihave Htok := hM $$ Htok
  unfold made positions; simp only [bigSep_sep']
  isplitl [Hst]; · iexact Hst
  isplitl [Hr]; · iexact Hr
  isplitl [Hat]; · iexact Hat
  iexact Htok

/-- On each device the semaphores at zero and the rounds at their beginning go into invariants. -/
theorem govern (c : Dev nD) :
    iprop(Pipeline.ownSems0 (Ix := Unit) (Name := ℕ) (U := UU) (Lvl := ℕ) (Val := Elt F) (τ := τ) ownSem c ∗ unscopedSems0 c ∗ made m c)
      ⊢ |={Set.univ}=> iprop((bigSep Finset.univ fun i => iprop(∃ κ : ℕ, cellInv ER (sched m) κ (kcell (c, i))))
          ∗ (bigSep Finset.univ fun i : Fin 14 => reached ER (kcell (c, i)) 0) ∗ positions c ∗ ownRights c) := by
  have hinv : iprop(zeros c ∗ bigSep Finset.univ fun i : Fin 14 => roundState ER (sched m) (kcell (c, i)) 0)
      ⊢ (|={Set.univ}=> bigSep Finset.univ fun i => iprop(∃ κ : ℕ, cellInv ER (sched m) κ (kcell (c, i))) : sProp 𝕄) := by
    unfold zeros
    rw [← bigSep_sep']
    exact (bigSep_mono fun i _ => (Rounds.body_intro ER (sched m) (kcell (c, i))).trans inv_alloc).trans (bigSep_fupd _ _)
  unfold made
  iintro ⟨Ho, Hu, Hst, Hr, Hat, Ht⟩
  imod hinv $$ [Ho Hu Hst] with HI
  · isplitl [Ho Hu]
    · rw [zeros_split]; isplitl [Hu] <;> iassumption
    iexact Hst
  imodintro
  isplitl [HI]; · iexact HI
  isplitl [Hr]; · iexact Hr
  isplitl [Hat]; · iexact Hat
  iexact Ht

/-- Who signals whom under which name: device `c` signals its peer `j` under the name `2 - j`, and the peer sees `c` as its
    own peer `2 - j`. -/
def facing : Dev nD × Fin 3 ≃ Dev nD × Fin 3 where
  toFun x := (peer x.1 x.2, x.2.rev)
  invFun x := (peer x.1 x.2, x.2.rev)
  left_inv x := Prod.ext (peer_rev x.1 x.2) (Fin.rev_rev x.2)
  right_inv x := Prod.ext (peer_rev x.1 x.2) (Fin.rev_rev x.2)

/-- Which copy of whose lands where. -/
def landing : Dev nD × Fin 2 × Fin 3 ≃ Dev nD × Fin 2 × Fin 3 where
  toFun x := (peer x.1 x.2.2, x.2)
  invFun x := (src x.1 x.2.2.castSucc, x.2)
  left_inv x := Prod.ext (src_peer x.1 x.2.2) rfl
  right_inv x := Prod.ext (peer_src x.1 x.2.2) rfl

omit [FloatOps F] in
/-- One resource for each device and each index, dealt anew along a permutation of the pairs. -/
theorem deal {I : Type} [Fintype I] (e : Dev nD × I ≃ Dev nD × I) (Φ : Dev nD → I → sProp 𝕄) :
    (bigSep Finset.univ fun c : Dev nD => bigSep Finset.univ fun i : I => Φ c i)
      = bigSep Finset.univ fun c : Dev nD => bigSep Finset.univ fun i : I => Φ (e (c, i)).1 (e (c, i)).2 := by
  rw [← bigSep_univ_prod (fun x : Dev nD × I => Φ x.1 x.2), bigSep_univ_equiv e, bigSep_univ_prod]

omit [FloatOps F] in
/-- Each right goes to the device that uses it. -/
theorem deal_rights : (bigSep Finset.univ fun c : Dev nD => (ownRights c : sProp 𝕄)) = bigSep Finset.univ fun c : Dev nD => rights c := by
  unfold ownRights rights
  simp only [bigSep_sep']
  rw [deal facing (fun c d => dutyTok ER (entryCell c) 0 d), deal facing (fun c d => dutyTok ER (exitCell c) 0 d),
    deal landing (fun c kj => dutyTok ER (recvCell c kj.1 kj.2) 0 0)]
  rfl

omit [FloatOps F] in
theorem with_all {I : Type} [DecidableEq I] {S : Finset I} {R : sProp 𝕄} [BI.Persistent R] {Φ : I → sProp 𝕄} :
    iprop(R ∗ bigSep S Φ) ⊢ bigSep S fun i => iprop(R ∗ Φ i) := by
  rw [bigSep_sep']; exact sep_mono_left (BI.bigSep_of_persistent S R)

theorem regroup :
    (bigSep Finset.univ fun c : Dev nD => iprop((bigSep Finset.univ fun i => iprop(∃ κ : ℕ, cellInv ER (sched m) κ (kcell (c, i))))
        ∗ (bigSep Finset.univ fun i : Fin 14 => reached ER (kcell (c, i)) 0) ∗ positions c ∗ ownRights c) : sProp 𝕄)
      ⊢ bigSep Finset.univ (dealt m) := by
  rw [bigSep_sep', bigSep_sep', bigSep_sep', deal_rights, ← bigSep_univ_prod (fun ci : Dev nD × Fin 14 => iprop(∃ κ : ℕ, cellInv ER (sched m) κ (kcell ci))),
    ← bigSep_univ_prod (fun ci : Dev nD × Fin 14 => (reached ER (kcell ci) 0 : sProp 𝕄))]
  iintro ⟨HI, #HR, Hat, Ht⟩
  ihave HK := (BI.bigSep_exists_pi Finset.univ (fun (ci : Dev nD × Fin 14) (κ : ℕ) => (cellInv ER (sched m) κ (kcell ci) : sProp 𝕄))) $$ HI
  icases HK with ⟨%K, #HI⟩
  unfold dealt
  iapply with_all
  isplitr
  · iexists K
    isplitr; · iexact HI
    iexact HR
  rw [bigSep_sep']
  isplitl [Hat] <;> iassumption

theorem launch_deals :
    (bigSep Finset.univ fun c => iprop(Pipeline.ownSems0 (Ix := Unit) (Name := ℕ) (U := UU) (Lvl := ℕ) (Val := Elt F) (τ := τ) ownSem c ∗ unscopedSems0 c ∗ made m c) : sProp 𝕄)
      ⊢ |={Set.univ}=> bigSep Finset.univ (dealt m) :=
  ((bigSep_mono fun c _ => govern m c).trans (bigSep_fupd _ _)).trans (BI.fupd_mono (regroup m))

/-! ## The credit at launch -/

/-- The total of a list's amounts on one semaphore. -/
def due (l : List (GSem nD τ sig × ℕ)) (g : GSem nD τ sig) : ℕ := (l.map fun x => if g = x.1 then x.2 else 0).sum

theorem owe_due (l : List (GSem nD τ sig × ℕ)) (g : GSem nD τ sig) : owe l g () = due l g := by
  induction l with
  | nil => rfl
  | cons x l ih =>
    show owe l g () + tallyAt x.1 () x.2 g () = (if g = x.1 then x.2 else 0) + due l g
    rw [ih, tallyAt_apply, Nat.add_comm]
    by_cases h : g = x.1
    · rw [if_pos h, if_pos ⟨h, rfl⟩]
    · rw [if_neg h, if_neg fun h' => h h'.1]

/-- The credit for a semaphore is what all the devices owe it. -/
theorem credit_of (c : Dev nD) (sm : SemLoc sig) (n : ℕ) (h : ∑ d : Dev nD, due (dueAll d) ((c : Thread nD τ), sm) = n) :
    tallyOn ((c : Thread nD τ), sm) (launchCredit (Pipeline.owing fun d => owe (dueAll d)) 0 ((c : Thread nD τ), sm))
      = (tallyAt ((c : Thread nD τ), sm) () n : CellTallies nD τ sig Unit) := by
  unfold tallyAt; refine congrArg _ (Finsupp.ext fun u => ?_); cases u
  rw [Pipeline.launchCredit_owing, Finsupp.single_eq_same, ← h]
  exact Finset.sum_congr rfl fun d _ => owe_due _ _

theorem due_entry : ∀ c : Dev nD, ∑ d : Dev nD, due (dueAll d) (entryCell c) = 3 := by decide +kernel
theorem due_exit : ∀ c : Dev nD, ∑ d : Dev nD, due (dueAll d) (exitCell c) = 3 := by decide +kernel
theorem due_recv : ∀ (c : Dev nD) (k : Fin 2) (j : Fin 3), ∑ d : Dev nD, due (dueAll d) (recvCell c k j) = N := by decide +kernel

omit [FloatOps F] in
theorem credits_of_launch (c : Dev nD) : (Pipeline.launchCred (fun d => owe (dueAll d)) c : sProp 𝕄) ⊢ credits c := by
  have keep (Φ : SemLoc sig → sProp 𝕄) : bigSep Finset.univ Φ ⊢ iprop(Φ (csem 0) ∗ Φ (csem 1) ∗ Φ (csem 2) ∗ Φ (csem 3) ∗ Φ (csem 4)
      ∗ Φ (csem 5) ∗ Φ (csem 6) ∗ Φ (csem 7) ∗ Φ (csem 8) ∗ Φ (csem 9) ∗ Φ (csem 10) ∗ Φ (csem 11) ∗ Φ (csem 12) ∗ Φ (csem 13)) :=
    (bigSep_subset (Finset.subset_univ (Finset.univ.map ⟨csem, csem_injective⟩))).trans (Entails.of_eq ((bigSep_map _).trans (over_cells _)))
  have e (sm : SemLoc sig) (n : ℕ) (h : ∑ d : Dev nD, due (dueAll d) ((c : Thread nD τ), sm) = n) :
      (cred (tallyOn ((c : Thread nD τ), sm) (launchCredit (Pipeline.owing fun d => owe (dueAll d)) 0 ((c : Thread nD τ), sm))) : sProp 𝕄)
        ⊢ cred (tallyAt ((c : Thread nD τ), sm) () n) := Entails.of_eq (by rw [credit_of c sm n h])
  unfold Pipeline.launchCred credits
  rw [over_copies]
  iintro H
  ihave H := (keep _) $$ H
  icases H with ⟨H0, H1, -, -, -, -, -, -, H8, H9, H10, H11, H12, H13⟩
  isplitl [H0]; · iapply (e _ _ (due_entry c)); iexact H0
  isplitl [H1]; · iapply (e _ _ (due_exit c)); iexact H1
  isplitl [H8 H9 H10]
  · isplitl [H8]; · iapply (e _ _ (due_recv c 0 0)); iexact H8
    isplitl [H9]; · iapply (e _ _ (due_recv c 0 1)); iexact H9
    iapply (e _ _ (due_recv c 0 2)); iexact H10
  isplitl [H11]; · iapply (e _ _ (due_recv c 1 0)); iexact H11
  isplitl [H12]; · iapply (e _ _ (due_recv c 1 1)); iexact H12
  iapply (e _ _ (due_recv c 1 2)); iexact H13

/-! ## The run -/

theorem start_intro (c : Dev nD) :
    iprop(Pipeline.unscopedRestP Pipeline.Prefetch.none cfg0.spec c (fun b => m ((c : Thread nD τ).loc b)) ∗ levAts L lv
        ∗ Pipeline.launchCred (fun d => owe (dueAll d)) c ∗ prngReg c (ρ c) ∗ dealt m c)
      ⊢ |={Set.univ}=> iprop(start m c ∗ emp) := by
  iintro ⟨-, HL, HC, -, HD⟩
  ihave HC := (credits_of_launch (F := F) c) $$ HC
  imodintro
  unfold start
  isplitl
  · isplitl [HD]; · iexact HD
    isplitl [HC] <;> iassumption
  · iempintro

theorem enter (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = holds₀ m c from rfl, scopedRest0_eq]
  unfold holds₀ bufPts
  iintro ⟨Hs, -, Hr⟩
  isplitl [Hs] <;> iassumption

theorem leave (c : Dev nD) :
    (dats m ρ 0 c).Φ (Fin.last cfg0.N) ⊢ iprop(unscopedSems0 c ∗ Pipeline.ownSems0 ownSem c ∗ Pipeline.scopedRest cfg0.spec c) := by
  rw [show (dats m ρ 0 c).Φ (Fin.last cfg0.N) = holds₁ m c from rfl, scopedRest0_eq]
  unfold holds₁ bufPts
  rw [zeros_split]
  iintro ⟨⟨Hu, Ho⟩, Hb⟩
  isplitl [Hu]; · iexact Hu
  isplitl [Ho]; · iexact Ho
  iexists (comm m c); iexact Hb

theorem level_stage : ∀ (w : Fin 2) (s : Fin (spec0 w).nbuf), level (role (.dma ((spec0 w).sem s))) = 0 := by decide

theorem waits (c : Dev nD) : (levAts L lv : sProp 𝕄) ⊢ Pipeline.cellsWaits cfgs (dats m ρ) () 0 c :=
  Pipeline.cellsWaits_intro cfgs (dats m ρ) () 0 c fun w s t => by
    have h0 : level (role (.dma ((spec0 w).sem s))) < 1 := by rw [level_stage w s]; decide
    rcases t with ⟨_ | _, ht⟩
    · exact mayWait c _ _ (all_above c h0)
    · exact mayWait c _ [] fun x hx => absurd hx List.not_mem_nil

theorem share_eq (c : Dev nD) (w : Fin cfg0.W) : (dats m ρ 0 c).share w = fullShare := by unfold Dat.share; split <;> rfl

/-- What a window's array holds at the end. -/
def finalA (c : Dev nD) (w : Fin cfg0.W) : Buf (Elt F) ((cfg0.win w).arr.view.loc (c : Thread nD τ)) := (dats m ρ 0 c).arrAt w cfg0.N

set_option maxRecDepth 8000 in
/-- From any memory with all semaphores at zero every fair execution on the four devices ends, with the two arrays of each
    device as computed and all semaphores at zero. -/
theorem run_main : θ_run defs (onTc (τ := τ) (main (F := F))) (s₀ m ρ)
    (fun r => (∀ (c : Dev nD) (w : Fin cfg0.W), r.2.mem ((cfg0.win w).arr.view.loc (c : Thread nD τ)) = finalA m ρ c w) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := fun d => owe (dueAll d)) (howed₀ := fun _ => rfl) (howedN := fun _ => rfl)
    (L := L) (lv := lv) (hL := L_of_ne) (hwaits := waits m ρ)
    (G := made m) (G' := dealt m) (u₀ := u₀)
    (hu₀ := by
      unfold u₀
      iintro Hu
      ihave H := (ownU_pair _ _) $$ Hu
      icases H with ⟨HP, HX⟩
      imod (make m) $$ HX with HG
      imodintro
      isplitl [HP] <;> iassumption)
    (hglob := launch_deals m)
    (hA := fun _ _ => rfl) (hpf := fun _ k => k.elim0)
    (X := start m) (Y := fun c => unscopedSems0 c) (Z := fun _ => iprop(emp))
    (hX := start_intro m ρ) (hin := enter m ρ) (hout := leave m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The array of `x` holds at the end what it held. -/
theorem finalA_x (c : Dev nD) : finalA m ρ c (0 : Fin 2) = (s₀ m ρ).mem (win0_0.arr.view.loc (c : Thread nD τ)) :=
  (dats (F := F) m ρ 0 c).arrAt_in (0 : Fin 2) rfl _

end Cert.KernelIdeal.Exchange

end
-- ==== Proof.KernelIdeal.Value.lean ====
/-
What the kernel computes, on the extended reals: device `c`'s entry at row `r` and column `l` is the exponential of its
`x` there times one over the sum of the exponentials of row `r` over the four devices (`outAt_apply`). First, for any
float values, what the arrays hold when the run ends.
-/
module

public import proofs.«01_k».proof.Proof.KernelIdeal.Launch
public import Idealize.ShloMosaic.Lib.IdealHost
public import Idealize.ShloMosaic.Lib.ValueIdx
public import Idealize.ShloMosaic.Lib.Pipeline.Value
public import Idealize.ShloMosaic.PureOps.Ideal.Laws

@[expose] public section

noncomputable section

namespace Cert.KernelIdeal.Exchange

open Cert.KernelIdeal Cert.KernelIdeal.Gen
open Idealize.ShloMosaic Idealize.ShloMosaic.TcCoe Idealize.ShloMosaic.ValueIdx
open Idealize.SL.Sem

/-! ## The arrays -/

section Arrays

variable {F : FTy → Type} [FloatOps F]
variable (m : (ℓ : Loc nD τ sig) → Buf (Elt F) ℓ) (ρ : Dev nD → PrngReg)

theorem index_in : ∀ a, win0_0.index (0 : Fin 1) a = 0 := by decide +kernel
theorem index_out : ∀ a, win0_1.index t0_0 a = 0 := by decide +kernel

/-- The one block of each array is the array. -/
theorem whole_in (i : S2048x1024.Idx) : (win0_0.blk (0 : Fin 1)).view.emb i = i := by
  funext a
  apply Fin.ext
  show win0_0.index (0 : Fin 1) a * S2048x1024.size a + 1 * (i a).val = (i a).val
  rw [index_in]; omega

theorem whole_out (i : S2048x1024.Idx) : (win0_1.blk t0_0).view.emb i = i := by
  funext a
  apply Fin.ext
  show win0_1.index t0_0 a * S2048x1024.size a + 1 * (i a).val = (i a).val
  rw [index_out]; omega

/-- The staging buffer of `x` holds the device's block of `x`. -/
theorem xstg_eq (c : Dev nD) (i : S2048x1024.Idx) : xstg m c i = m ((c : Thread nD τ).loc main_arg0) i :=
  congrArg (m ((c : Thread nD τ).loc main_arg0)) (whole_in i)

/-- The result array ends holding what the body left in its staging buffer. -/
theorem finalA_out (c : Dev nD) : finalA m ρ c (1 : Fin 2) = outAt m c := by
  have h : finalA m ρ c (1 : Fin 2)
      = (win0_1.blk t0_0).view.write (Elt F) (m ((c : Thread nD τ).loc main_v1)) (outAt m c) Finset.univ := by
    unfold finalA
    rw [show cfg0.N = t0_0.val + 1 from rfl, (dats m ρ 0 c).arrAt_succ (1 : Fin 2) t0_0, if_pos (flush0_1 _)]
    rfl
  rw [h]
  funext i
  have e := View.write_emb_of_mem (v := (win0_1.blk t0_0).view) (m ((c : Thread nD τ).loc main_v1)) (outAt m c)
    (Finset.mem_univ (α := S2048x1024.Idx) i)
  exact (congrArg _ (whole_out i)).symm.trans e

end Arrays

/-! ## The values -/

variable (m : (ℓ : Loc nD τ sig) → Buf (Elt Ideal) ℓ)

/-- Device `c`'s block of `x`. -/
abbrev xs (c : Dev nD) : S2048x1024.Idx → EReal := m ((c : Thread nD τ).loc main_arg0)

set_option backward.proofsInPublic true in
/-- Row `p` of chunk `k`, among the rows of the block. -/
def rowAt (k : Fin 2) (p : Fin 1024) : Fin 2048 := ⟨1024 * k.val + p.val, by omega⟩

theorem xhalf_apply (k : Fin 2) (c : Dev nD) (p q : Fin 1024) : xhalf m k c (ix2 p q) = xs m c (ix2 (rowAt k p) q) := by
  refine (xstg_eq m c ((halfR k).emb (ix2 p q))).trans (congrArg (xs m c) ?_)
  funext a
  apply Fin.ext
  fin_cases a
  · show 1024 * k.val + 1 * p.val = 1024 * k.val + p.val; omega
  · show 0 + 1 * q.val = q.val; omega

/-- The exponentials of a chunk. -/
theorem exp_apply (k : Fin 2) (c : Dev nD) (p q : Fin 1024) :
    k0_pay1 (xhalf m k c) (ix2 p q) = Ideal.exp (xs m c (ix2 (rowAt k p) q)) := by
  show Ideal.exp (shapeCast S1024x1024 (xhalf m k c) _ (ix2 p q)) = _
  rw [shapeCast_self, xhalf_apply]

/-- The sum of the exponentials of row `r` of device `c`'s block. -/
def rowSum (c : Dev nD) (r : Fin 2048) : EReal := ∑ q : Fin 1024, Ideal.exp (xs m c (ix2 r q))

theorem psum_apply (k : Fin 2) (c : Dev nD) (p : Fin 1024) : psum m k c (ix3 (0 : Fin 1) (0 : Fin 1) p) = rowSum m c (rowAt k p) := by
  unfold psum k0_pay2 rowSum
  refine (shapeCast_apply _ _ _ (ix1 p) ?_).trans ?_
  · rw [Shape.rowMajor_val_one, Shape.rowMajor_val_three]
    show p.val = (0 * 1 + 0) * 1024 + p.val
    omega
  · refine (Ideal.multiReduction_add_single _ _ reduces_S1024x1024_S1024 (.inl rfl) rfl (ix1 p)).trans ?_
    refine Finset.sum_congr rfl fun q _ => ?_
    refine (congrArg (k0_pay1 (xhalf m k c)) (?_ : _ = ix2 p q)).trans (exp_apply m k c p q)
    funext a
    apply Fin.ext
    fin_cases a <;> rfl

/-- Row `j` of a chunk, once all has arrived, has the row sums of the device `j + 1` places before. -/
theorem slab_apply (k : Fin 2) (c : Dev nD) (j : Fin 4) (p : Fin 1024) :
    slab m k c (ix3 (0 : Fin 1) j p) = rowSum m (src c j) (rowAt k p) := by
  refine Eq.trans ?_ (psum_apply m k (src c j) p)
  refine Eq.trans (congrArg (comm m c) (?_ : (slabR k).emb (ix3 (0 : Fin 1) j p) = place k j (ix3 (0 : Fin 1) (0 : Fin 1) p)))
    (comm_place m c k j _)
  funext a
  apply Fin.ext
  fin_cases a
  · rfl
  · show 0 + 1 * j.val = j.val + 1 * 0; omega
  · rfl

theorem src_bijective : ∀ c : Dev nD, Function.Bijective (src c) := by decide +kernel

/-- A chunk of the result. -/
theorem outHalf_apply (k : Fin 2) (c : Dev nD) (p q : Fin 1024) :
    outHalf m k c (ix2 p q) = Ideal.exp (xs m c (ix2 (rowAt k p) q)) * Ideal.div 1 (∑ d : Dev nD, rowSum m d (rowAt k p)) := by
  have total : multiReduction .add [0] S1024 (shapeCast S4x1024 (slab m k c) shapeCasts_S1x4x1024_S4x1024) 0x00000000#32
      reduces_S4x1024_S1024 (.inl rfl) rfl (ix1 p) = ∑ d : Dev nD, rowSum m d (rowAt k p) := by
    refine (Ideal.multiReduction_add_single _ _ reduces_S4x1024_S1024 (.inl rfl) rfl (ix1 p)).trans ?_
    refine Eq.trans (Finset.sum_congr rfl fun j _ => ?_)
      ((src_bijective c).sum_comp fun d => rowSum m d (rowAt k p))
    refine Eq.trans (shapeCast_apply _ _ _ (ix3 (0 : Fin 1) j p) ?_) (slab_apply m k c j p)
    rw [Shape.rowMajor_val_three, Shape.rowMajor_val_two]
    show (0 * 4 + j.val) * 1024 + p.val = j.val * 1024 + p.val
    omega
  unfold outHalf k0_pay5
  rw [mulf_apply, exp_apply]
  refine congrArg (Ideal.exp (xs m c (ix2 (rowAt k p) q)) * ·) ?_
  refine (broadcastTo_apply _ _ _ (ix2 p (0 : Fin 1)) ?_).trans ?_
  · intro a; fin_cases a <;> rfl
  refine (shapeCast_apply _ _ _ (ix1 p) ?_).trans ?_
  · rw [Shape.rowMajor_val_one, Shape.rowMajor_val_two]
    show p.val = p.val * 1 + 0
    omega
  rw [divf_apply, total]
  exact congrArg (Ideal.div · _) Ideal.ofBits_one_f32

/-- The device's block of the result. -/
theorem outAt_apply (c : Dev nD) (r : Fin 2048) (l : Fin 1024) :
    outAt m c (ix2 r l) = Ideal.exp (xs m c (ix2 r l)) * Ideal.div 1 (∑ d : Dev nD, rowSum m d r) := by
  have hw : within (ix2 r l) = ix2 (⟨r.val % 1024, Nat.mod_lt _ (by decide)⟩ : Fin 1024) l := by
    funext a
    apply Fin.ext
    fin_cases a <;> rfl
  have hr : rowAt (halfOf (ix2 r l)) (⟨r.val % 1024, Nat.mod_lt _ (by decide)⟩ : Fin 1024) = r :=
    Fin.ext (Nat.div_add_mod r.val 1024)
  unfold outAt
  rw [hw, outHalf_apply, hr]

end Cert.KernelIdeal.Exchange

end
-- ==== Proof.Softmax.lean ====
/-
The two ways of writing a softmax, on the extended reals.

The kernel multiplies each exponential by one over the sum of the exponentials; the reference first subtracts a row's
maximum from each entry, and divides. On rows of real numbers the two are equal (`share_shifted`), whatever real number is
subtracted; and the maximum of a row of real numbers, taken from minus infinity, is a real number (`foldl_max_real`).
-/
module

public import Idealize.ShloMosaic.PureOps.Ideal
public import Idealize.ShloMosaic.PureOps.Ideal.Laws

@[expose] public section

noncomputable section

namespace Cert.Softmax

open Idealize.ShloMosaic

/-- An extended real whose absolute value is below plus infinity is a real number. -/
theorem real_of_abs_lt_top {a : EReal} (h : max a (-a) < ⊤) : ∃ x : ℝ, a = (x : EReal) := by
  induction a using EReal.rec with
  | bot => simp at h
  | coe x => exact ⟨x, rfl⟩
  | top => simp at h

/-- A finite sum of real numbers, taken among the extended reals, is their real sum. -/
theorem sum_real {ι : Type} (s : Finset ι) (f : ι → ℝ) : ∑ k ∈ s, (f k : EReal) = ((∑ k ∈ s, f k : ℝ) : EReal) := by
  classical
  induction s using Finset.induction_on with
  | empty => simp
  | insert a s ha ih => rw [Finset.sum_insert ha, Finset.sum_insert ha, ih, EReal.coe_add]

/-- The quotient of two real numbers, the divisor not zero, is their real quotient. -/
theorem div_real (x : ℝ) {y : ℝ} (hy : y ≠ 0) : Ideal.div (x : EReal) (y : EReal) = ((x / y : ℝ) : EReal) := by
  unfold Ideal.div
  rw [if_neg (by exact_mod_cast hy), div_eq_mul_inv, EReal.coe_mul, EReal.coe_inv]

/-- On real numbers: an exponential times one over the sum of the exponentials is the quotient of the same exponentials with
    any one number subtracted from every exponent. -/
theorem share_shifted {ι : Type} [Fintype ι] [Nonempty ι] (x : ι → ℝ) (M : ℝ) (i : ι) :
    Ideal.exp (x i : EReal) * Ideal.div 1 (∑ k, Ideal.exp (x k : EReal))
      = Ideal.div (Ideal.exp ((x i : EReal) - (M : EReal))) (∑ k, Ideal.exp ((x k : EReal) - (M : EReal))) := by
  have exp_real (r : ℝ) : Ideal.exp (r : EReal) = (Real.exp r : EReal) := rfl
  have pos (f : ι → ℝ) : (∑ k, Real.exp (f k)) ≠ 0 :=
    (Finset.sum_pos (fun k _ => Real.exp_pos (f k)) Finset.univ_nonempty).ne'
  simp only [← EReal.coe_sub, exp_real, sum_real]
  rw [← EReal.coe_one, div_real _ (pos x), div_real _ (pos fun k => x k - M), ← EReal.coe_mul]
  congr 1
  have hsum : (∑ k, Real.exp (x k - M)) = (∑ k, Real.exp (x k)) * (Real.exp M)⁻¹ := by
    rw [Finset.sum_mul]
    exact Finset.sum_congr rfl fun k _ => by rw [Real.exp_sub, div_eq_mul_inv]
  have hM := (Real.exp_pos M).ne'
  have hx := pos x
  rw [hsum, Real.exp_sub]
  field_simp

/-- The running maximum of real numbers from a real number is a real number. -/
theorem foldl_max_from_real {ι : Type} (f : ι → EReal) : ∀ (l : List ι) (b : EReal), (∃ x : ℝ, b = (x : EReal)) →
    (∀ i ∈ l, ∃ x : ℝ, f i = (x : EReal)) → ∃ x : ℝ, l.foldl (fun r i => max r (f i)) b = (x : EReal)
  | [], _, hb, _ => hb
  | a :: l, b, hb, hf => by
    refine foldl_max_from_real f l (max b (f a)) ?_ fun i hi => hf i (List.mem_cons_of_mem _ hi)
    rcases max_choice b (f a) with h | h <;> rw [h]
    · exact hb
    · exact hf a List.mem_cons_self

/-- The running maximum of at least one real number from minus infinity is a real number. -/
theorem foldl_max_real {ι : Type} (f : ι → EReal) {l : List ι} (hl : l ≠ []) (hf : ∀ i ∈ l, ∃ x : ℝ, f i = (x : EReal)) :
    ∃ x : ℝ, l.foldl (fun r i => max r (f i)) ⊥ = (x : EReal) := by
  obtain ⟨a, l, rfl⟩ := List.exists_cons_of_ne_nil hl
  rw [List.foldl_cons, max_eq_right bot_le]
  exact foldl_max_from_real f l _ (hf a List.mem_cons_self) fun i hi => hf i (List.mem_cons_of_mem _ hi)

end Cert.Softmax

end
-- ==== Proof.Reference.lean ====
/-
The reference program: what it computes, on rows of real numbers, and that it leaves every semaphore at zero (it has none).
-/
module

public import proofs.«01_k».proof.Proof.Gen.ReferenceIdeal
public import proofs.«01_k».proof.Proof.Gen.ReferenceIdeal.Run
public import proofs.«01_k».proof.Proof.Softmax
public import Idealize.ShloMosaic.Lib.IdealHost
public import Idealize.ShloMosaic.Lib.ValueIdx
public import Idealize.ShloMosaic.Lib.Pipeline.Value
public import Idealize.ShloMosaic.Lib.Quiescent
public import Idealize.ShloMosaic.PureOps.Reduce

@[expose] public section

noncomputable section

namespace Cert.Reference

open Cert.ReferenceIdeal Cert.ReferenceIdeal.Gen
open Idealize.ShloMosaic Idealize.ShloMosaic.TcCoe Idealize.ShloMosaic.ValueIdx Idealize.SL.Sem

/-- A number for each row, repeated along the row. -/
abbrev spread (v : FVec Ideal S2048 .f32) : FVec Ideal S2048x4096 .f32 :=
  broadcastInDim S2048x4096 ![0, 1] bcast_S2048x1_S2048x4096_0_1 (broadcastInDim S2048x1 ![0] bcast_S2048_S2048x1_0 v)

/-- The greatest entry of each row, from minus infinity. -/
abbrev rowMax (A : FVec Ideal S2048x4096 .f32) : FVec Ideal S2048 .f32 :=
  Host.reduce FloatOps.maximumf A (constant S_ .f32 0xFF800000#32) reducesTo_S2048x4096_S2048_d1 h_S_

/-- The exponentials of the entries less their row's greatest. -/
abbrev shifted (A : FVec Ideal S2048x4096 .f32) : FVec Ideal S2048x4096 .f32 := Host.exp (subf A (spread (rowMax A)))

/-- The reference's result. -/
abbrev result (A : FVec Ideal S2048x4096 .f32) : FVec Ideal S2048x4096 .f32 :=
  Host.divf (shifted A) (spread (Host.reduceAdd (shifted A) (constant S_ .f32 0x00000000#32) reducesTo_S2048x4096_S2048_d1 h_S_))

theorem reduces_row : S2048x4096.Reduces [1] S2048 := by decide

theorem spread_apply (v : FVec Ideal S2048 .f32) (r : Fin 2048) (l : Fin 4096) : spread v (ix2 r l) = v (ix1 r) := by
  refine (broadcastInDim_apply _ _ _ _ (ix2 r (0 : Fin 1)) ?_).trans (broadcastInDim_apply _ _ _ _ (ix1 r) ?_)
  · intro a; fin_cases a <;> rfl
  · intro a; fin_cases a; rfl

/-- The entries of row `r` are those whose index reduces to `r`. -/
theorem lift_row (r : Fin 2048) (l : Fin 4096) : reduces_row.lift (ix1 r) l = ix2 r l := by
  funext a
  apply Fin.ext
  fin_cases a <;> rfl

/-- The sum of the entries of row `r`. -/
theorem rowSum_apply (x : FVec Ideal S2048x4096 .f32) (r : Fin 2048) :
    Host.reduceAdd x (constant S_ .f32 0x00000000#32) reducesTo_S2048x4096_S2048_d1 h_S_ (ix1 r) = ∑ l : Fin 4096, x (ix2 r l) := by
  rw [hostReduceAdd_apply, Ideal.hostReduceAdd_single _ reduces_row, constant_apply]
  show Ideal.ofBits .f32 0x00000000#32 + _ = _
  rw [Ideal.ofBits_zero_f32, zero_add]
  exact Finset.sum_congr rfl fun l _ => congrArg x (lift_row r l)

/-- The greatest entry of a row of real numbers is a real number. -/
theorem rowMax_real {A : FVec Ideal S2048x4096 .f32} (hA : ∀ i, ∃ x : ℝ, A i = (x : EReal)) (r : Fin 2048) :
    ∃ M : ℝ, rowMax A (ix1 r) = (M : EReal) := by
  have hinit : (constant (F := Ideal) S_ .f32 0xFF800000#32 (Shape.Idx.first h_S_) : EReal) = ⊥ := by
    show Ideal.ofBits .f32 0xFF800000#32 = ⊥
    simp [Ideal.ofBits, Ideal.ieee]
  unfold rowMax
  rw [Host.reduce_eq_foldl, hinit]
  refine Softmax.foldl_max_real A ?_ fun i _ => hA i
  refine List.ne_nil_of_mem (a := ix2 r (0 : Fin 4096)) (List.mem_filter.2 ⟨?_, ?_⟩)
  · exact List.mem_map.2 ⟨S2048x4096.rowMajor (ix2 r 0), List.mem_finRange _, Equiv.symm_apply_apply _ _⟩
  · rw [decide_eq_true_eq, Shape.ReducesTo.drop_eq_drop _ reduces_row]
    funext a
    apply Fin.ext
    fin_cases a; rfl

/-- On real numbers the reference's result is each exponential times one over the sum of its row's. -/
theorem result_apply {A : FVec Ideal S2048x4096 .f32} (hA : ∀ i, ∃ x : ℝ, A i = (x : EReal)) (r : Fin 2048) (l : Fin 4096) :
    result A (ix2 r l) = Ideal.exp (A (ix2 r l)) * Ideal.div 1 (∑ k : Fin 4096, Ideal.exp (A (ix2 r k))) := by
  obtain ⟨M, hM⟩ := rowMax_real hA r
  choose x hx using hA
  have hs (k : Fin 4096) : shifted A (ix2 r k) = Ideal.exp ((x (ix2 r k) : EReal) - (M : EReal)) := by
    show Ideal.exp (A (ix2 r k) - spread (rowMax A) (ix2 r k)) = _
    rw [spread_apply, hM, hx]
  show Ideal.div (shifted A (ix2 r l)) (spread _ (ix2 r l)) = _
  rw [spread_apply, rowSum_apply, hs]
  simp only [hs, hx]
  exact (Softmax.share_shifted (fun k : Fin 4096 => x (ix2 r k)) M l).symm

/-- From any memory every fair execution of the reference ends, the result as computed, the argument unchanged, and no
    semaphore off zero. -/
theorem run (m : (ℓ : Loc nD τ sig) → Buf (Elt Ideal) ℓ) (ρ : Dev nD → PrngReg) :
    θ_run defs (onTc (τ := τ) (main (F := Ideal))) ⟨m, fun _ => 0, ρ⟩ fun r =>
      (∀ c : Dev nD, r.2.mem ((c.tc : Thread nD τ).loc main_v8) = result (m ((c.tc : Thread nD τ).loc main_arg0))
        ∧ r.2.mem ((c.tc : Thread nD τ).loc main_arg0) = m ((c.tc : Thread nD τ).loc main_arg0)) ∧ r.2.sem = fun _ => 0 :=
  (θ_run defs _ _).mono (fun r h => ⟨h, sem_eq_zero_of_no_sems rfl r.2⟩) (Value.run m ρ)

end Cert.Reference

end
-- ==== Proof.Conforms.lean ====
/-
The kernel's blocks of the result are the blocks of the reference's result, when every entry of `x` is a real number.
-/
module

public import proofs.«01_k».proof.Defs
public import proofs.«01_k».proof.Proof.Gen.Pre_finite_KernelIdeal
public import proofs.«01_k».proof.Proof.KernelIdeal.Value
public import proofs.«01_k».proof.Proof.Reference
public import Idealize.ShloMosaic.Lib.Layout
public import Idealize.ShloMosaic.Lib.ReduceAll

@[expose] public section

noncomputable section

namespace Cert.Conforms

open Idealize.ShloMosaic Idealize.ShloMosaic.ValueIdx

/-- A device's block, and the whole array. -/
abbrev B : Shape := ⟨2, ![2048, 1024]⟩
abbrev W : Shape := ⟨2, ![2048, 4096]⟩

/-- What the precondition says of a block: each of its entries is a real number. -/
theorem real_of_finite (x : FVec Ideal B .f32) (h : Cert.Pre_finite_KernelIdeal.fn (F := Ideal) x = fun _ => 1#1) (i : B.Idx) :
    ∃ y : ℝ, x i = (y : EReal) := by
  have hall := congrFun h ix0
  unfold Cert.Pre_finite_KernelIdeal.fn at hall
  haveI : Subsingleton Cert.Pre_finite_KernelIdeal.S_.Idx := ⟨fun a b => funext fun k => k.elim0⟩
  have hi := Host.reduce_andi_all _ _ _ _ _ hall i
  have htop : Ideal.ofBits .f32 0x7F800000#32 = ⊤ := by simp [Ideal.ofBits, Ideal.ieee]
  have hc : Ideal.cmp .olt (max (x i) (-(x i))) (Ideal.ofBits .f32 0x7F800000#32) = 1#1 := hi
  rw [htop] at hc
  refine Softmax.real_of_abs_lt_top ?_
  by_contra hn
  unfold Ideal.cmp at hc
  rw [decide_eq_false hn] at hc
  exact absurd hc (show ¬ BitVec.ofBool false = 1#1 by decide)

theorem tiles : Layout.Tiles B W 1 4 := by decide

set_option backward.proofsInPublic true in
/-- Column `q` of block `d`, among the columns of the whole array. -/
def colAt (d : Fin 4) (q : Fin 1024) : Fin 4096 := ⟨d.val * 1024 + q.val, by omega⟩

theorem block_ix2 (d : Fin 4) (A : FVec Ideal W .f32) (r : Fin 2048) (q : Fin 1024) :
    Layout.block B W 1 4 d A tiles (ix2 r q) = A (ix2 r (colAt d q)) := by
  rw [Layout.block_apply]
  refine congrArg A (funext fun a => Fin.ext ?_)
  fin_cases a
  · exact (Layout.idx_cols_val tiles d (ix2 r q)).1
  · exact (Layout.idx_cols_val tiles d (ix2 r q)).2

/-- Every column of the whole array is a column of a block. -/
theorem exists_colAt (k : Fin 4096) : ∃ d q, k = colAt d q :=
  ⟨⟨k.val / 1024, by omega⟩, ⟨k.val % 1024, by omega⟩, Fin.ext (by show k.val = k.val / 1024 * 1024 + k.val % 1024; omega)⟩

/-- A sum over the columns of the whole array is the sum over the blocks of the sums over their columns. -/
theorem sum_columns (f : Fin 4096 → EReal) : ∑ d : Fin 4, ∑ q : Fin 1024, f (colAt d q) = ∑ k : Fin 4096, f k := by
  rw [← Fintype.sum_prod_type']
  refine Fintype.sum_equiv (finProdFinEquiv (m := 4) (n := 1024)) _ _ fun p => congrArg f (Fin.ext ?_)
  show p.1.val * 1024 + p.2.val = p.2.val + 1024 * p.1.val
  omega

open Cert.KernelIdeal Cert.KernelIdeal.Exchange in
/-- The kernel's result on device `c` is block `c` of the reference's. -/
theorem blocks (m : (ℓ : Loc nD τ sig) → Buf (Elt Ideal) ℓ) (A : FVec Ideal W .f32)
    (hm : ∀ c : Dev nD, xs m c = Layout.block B W 1 4 c A tiles) (hr : ∀ (c : Dev nD) (i : B.Idx), ∃ y : ℝ, xs m c i = (y : EReal))
    (c : Dev nD) : outAt m c = Layout.block B W 1 4 c (Reference.result A) tiles := by
  have entry (d : Dev nD) (r : Fin 2048) (q : Fin 1024) : xs m d (ix2 r q) = A (ix2 r (colAt d q)) :=
    (congrFun (hm d) (ix2 r q)).trans (block_ix2 d A r q)
  have hA : ∀ i, ∃ y : ℝ, A i = (y : EReal) := fun i => by
    obtain ⟨d, q, hk⟩ := exists_colAt (i 1)
    obtain ⟨y, hy⟩ := hr d (ix2 (i 0) q)
    exact ⟨y, by rw [eq_ix2 i, hk]; exact (entry d (i 0) q).symm.trans hy⟩
  have sums (r : Fin 2048) : ∑ d : Dev nD, rowSum m d r = ∑ k : Fin 4096, Ideal.exp (A (ix2 r k)) := by
    refine Eq.trans (Finset.sum_congr rfl fun d _ => ?_) (sum_columns fun k => Ideal.exp (A (ix2 r k)))
    exact Finset.sum_congr rfl fun q _ => congrArg Ideal.exp (entry d r q)
  funext i
  obtain ⟨r, l, rfl⟩ : ∃ r l, i = ix2 r l := ⟨i 0, i 1, eq_ix2 i⟩
  rw [outAt_apply, block_ix2, Reference.result_apply hA, entry, sums]

end Cert.Conforms

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite_KernelIdeal
public import proofs.«01_k».proof.Proof.Gen.Pre_finite_ReferenceIdeal
public import proofs.«01_k».proof.Proof.Kernel.Launch
public import proofs.«01_k».proof.Proof.Conforms
public import Idealize.ShloMosaic.Adequacy
public import Idealize.ShloMosaic.Init

@[expose] public section

noncomputable section

namespace Cert.Proof

open Idealize.ShloMosaic Idealize.SL.Sem

/-- The kernel runs, leaves its argument alone and every semaphore at zero. -/
theorem kernel_frame : Cert.quiescent_Kernel (hKernel := Cert.Kernel.Gen.facts) := fun m g _ =>
  (θ_run _ _ _).mono (fun _ h => ⟨fun c => (h.1 c (0 : Fin 2)).trans (Cert.Kernel.Exchange.finalA_x m g c), h.2⟩)
    (Cert.Kernel.Exchange.run_main m g)

/-- So does it on the extended reals. -/
theorem ideal_frame : Cert.quiescent_KernelIdeal (hKernelIdeal := Cert.KernelIdeal.Gen.facts) := fun m g _ =>
  (θ_run _ _ _).mono (fun _ h => ⟨fun c => (h.1 c (0 : Fin 2)).trans (Cert.KernelIdeal.Exchange.finalA_x m g c), h.2⟩)
    (Cert.KernelIdeal.Exchange.run_main m g)

/-- So does the reference. -/
theorem reference_frame : Cert.quiescent_ReferenceIdeal (hReferenceIdeal := Cert.ReferenceIdeal.Gen.facts) := fun m g _ =>
  (θ_run _ _ _).mono (fun _ h => ⟨fun c => (h.1 c).2, h.2⟩) (Cert.Reference.run m g)

/-- Where every entry of `x` is finite, each device ends with its block of the reference's result. -/
theorem conforms : Cert.algebraic_KernelIdeal_ReferenceIdeal_pre_finite_KernelIdeal (hKernelIdeal := Cert.KernelIdeal.Gen.facts)
    (hReferenceIdeal := Cert.ReferenceIdeal.Gen.facts) (hPre_finite_KernelIdeal := Cert.Pre_finite_KernelIdeal.Gen.facts) := by
  intro m g m' g' hpre hblk
  refine ⟨Cert.Reference.result (m' (((0 : Dev Cert.ReferenceIdeal.nD).tc : Thread Cert.ReferenceIdeal.nD Cert.ReferenceIdeal.τ).loc
    Cert.ReferenceIdeal.main_arg0)), ?_, ?_⟩
  · refine (θ_run _ _ _).mono (fun r h c => ⟨?_, ?_⟩) (Cert.KernelIdeal.Exchange.run_main m g)
    · exact ((h.1 c (1 : Fin 2)).trans (Cert.KernelIdeal.Exchange.finalA_out m g c)).trans
        (Cert.Conforms.blocks m _ hblk (fun d => Cert.Conforms.real_of_finite _ (hpre d)) c)
    · exact (h.1 c (0 : Fin 2)).trans (Cert.KernelIdeal.Exchange.finalA_x m g c)
  · exact (θ_run _ _ _).mono (fun _ h => h.1 0) (Cert.Reference.run m' g')

/-- All the claims. -/
theorem claim : Cert.Claim := ⟨Cert.Kernel.Gen.facts, Cert.KernelIdeal.Gen.facts, Cert.ReferenceIdeal.Gen.facts,
  Cert.Pre_finite_KernelIdeal.Gen.facts, Cert.Pre_finite_ReferenceIdeal.Gen.facts,
  kernel_frame, ideal_frame, fun m g _ => ideal_frame m g trivial, reference_frame, fun m g _ => reference_frame m g trivial, trivial, conforms⟩

end Cert.Proof

end
